-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gates [hPre_finite_gates : Cert.Pre_finite_gates.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gates.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gates [hPre_finite_gates : Cert.Pre_finite_gates.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gates.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_bonus [hPre_finite_bonus : Cert.Pre_finite_bonus.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_bonus.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13)) (m ((c.tc : Thread Cert.Kernel4Ideal.nD Cert.Kernel4Ideal.τ).loc Cert.Kernel4Ideal.main_arg14)) (m ((c.tc : Thread Cert.Kernel4Ideal.nD Cert.Kernel4Ideal.τ).loc Cert.Kernel4Ideal.main_arg15)) (m ((c.tc : Thread Cert.Kernel4Ideal.nD Cert.Kernel4Ideal.τ).loc Cert.Kernel4Ideal.main_arg16)) (m ((c.tc : Thread Cert.Kernel4Ideal.nD Cert.Kernel4Ideal.τ).loc Cert.Kernel4Ideal.main_arg17)) (m ((c.tc : Thread Cert.Kernel4Ideal.nD Cert.Kernel4Ideal.τ).loc Cert.Kernel4Ideal.main_arg18))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_bonus [hPre_finite_bonus : Cert.Pre_finite_bonus.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_bonus.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13)) (m ((c.tc : Thread Cert.Reference4Ideal.nD Cert.Reference4Ideal.τ).loc Cert.Reference4Ideal.main_arg14)) (m ((c.tc : Thread Cert.Reference4Ideal.nD Cert.Reference4Ideal.τ).loc Cert.Reference4Ideal.main_arg15)) (m ((c.tc : Thread Cert.Reference4Ideal.nD Cert.Reference4Ideal.τ).loc Cert.Reference4Ideal.main_arg16)) (m ((c.tc : Thread Cert.Reference4Ideal.nD Cert.Reference4Ideal.τ).loc Cert.Reference4Ideal.main_arg17)) (m ((c.tc : Thread Cert.Reference4Ideal.nD Cert.Reference4Ideal.τ).loc Cert.Reference4Ideal.main_arg18))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_gates [hKernel2Ideal : Cert.Kernel2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gates m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_gates [hReference2Ideal : Cert.Reference2Ideal.Facts] [hPre_finite_gates : Cert.Pre_finite_gates.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gates m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Kernel4Ideal_pre_finite_bonus [hKernel4Ideal : Cert.Kernel4Ideal.Facts] [hPre_finite_bonus : Cert.Pre_finite_bonus.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_bonus m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Reference4Ideal_pre_finite_bonus [hReference4Ideal : Cert.Reference4Ideal.Facts] [hPre_finite_bonus : Cert.Pre_finite_bonus.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_bonus m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def preserves_Kernel2_Kernel2Ideal : Prop :=
  True

def algebraic_Kernel2Ideal_Reference2Ideal_pre_finite_gates [hKernel2Ideal : Cert.Kernel2Ideal.Facts] [hReference2Ideal : Cert.Reference2Ideal.Facts] [hPre_finite_gates : Cert.Pre_finite_gates.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gates m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_bonus [hKernel4Ideal : Cert.Kernel4Ideal.Facts] [hReference4Ideal : Cert.Reference4Ideal.Facts] [hPre_finite_bonus : Cert.Pre_finite_bonus.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_bonus m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v126) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_gates : Cert.Pre_finite_gates.Facts) (hPre_finite_bonus : Cert.Pre_finite_bonus.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_gates (hKernel2Ideal := hKernel2Ideal) (hPre_finite_gates := hPre_finite_gates)
    ∧ quiescent_Reference2Ideal (hReference2Ideal := hReference2Ideal)
    ∧ quiescent_Reference2Ideal_pre_finite_gates (hReference2Ideal := hReference2Ideal) (hPre_finite_gates := hPre_finite_gates)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_bonus (hKernel4Ideal := hKernel4Ideal) (hPre_finite_bonus := hPre_finite_bonus)
    ∧ quiescent_Reference4Ideal (hReference4Ideal := hReference4Ideal)
    ∧ quiescent_Reference4Ideal_pre_finite_bonus (hReference4Ideal := hReference4Ideal) (hPre_finite_bonus := hPre_finite_bonus)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ preserves_Kernel2_Kernel2Ideal
    ∧ algebraic_Kernel2Ideal_Reference2Ideal_pre_finite_gates (hKernel2Ideal := hKernel2Ideal) (hReference2Ideal := hReference2Ideal) (hPre_finite_gates := hPre_finite_gates)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_bonus (hKernel4Ideal := hKernel4Ideal) (hReference4Ideal := hReference4Ideal) (hPre_finite_bonus := hPre_finite_bonus)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_bonus.lean ====
abbrev S16x2048x512 : Shape := ⟨3, ![16, 2048, 512]⟩
abbrev S16x2048x8192 : Shape := ⟨3, ![16, 2048, 8192]⟩
abbrev S16x2048x1024 : Shape := ⟨3, ![16, 2048, 1024]⟩
abbrev S16x6x1024 : Shape := ⟨3, ![16, 6, 1024]⟩
abbrev S512 : Shape := ⟨1, ![512]⟩
abbrev S8x64 : Shape := ⟨2, ![8, 64]⟩
abbrev S3x512x1024 : Shape := ⟨3, ![3, 512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg12 : FVec F S512 .f32) (main_arg13 : FVec F S8x64 .f32) (main_v16 : IVec S_ 1) (main_v17 : FVec F S16x2048x512 .f32) : IVec S_ 1 :=
  let main_v18 : FVec F S16x2048x512 .f32 := Host.absf main_v17
  let main_cst_4 : FVec F S_ .f32 := constant S_ .f32 0x7F800000#32
  let main_v19 : FVec F S16x2048x512 .f32 := broadcastInDim S16x2048x512 ![] bcast_S_S16x2048x512 main_cst_4
  let main_v20 : IVec S16x2048x512 1 := cmpf .olt main_v18 main_v19
  let main_c_5 : IVec S_ 1 := constantI S_ 1 1#1
  let main_v21 : IVec S_ 1 := (fun x v => Host.reduce IntOp.andi x v reducesTo_S16x2048x512_S_d0_1_2 h_S_) main_v20 main_c_5
  let main_v22 : IVec S_ 1 := andi main_v16 main_v21
  let main_v23 : FVec F S512 .f32 := Host.absf main_arg12
  let main_cst_6 : FVec F S_ .f32 := constant S_ .f32 0x7F800000#32
  let main_v24 : FVec F S512 .f32 := broadcastInDim S512 ![] bcast_S_S512 main_cst_6
  let main_v25 : IVec S512 1 := cmpf .olt main_v23 main_v24
  let main_c_7 : IVec S_ 1 := constantI S_ 1 1#1
  let main_v26 : IVec S_ 1 := (fun x v => Host.reduce IntOp.andi x v reducesTo_S512_S_d0 h_S_) main_v25 main_c_7
  let main_v27 : IVec S_ 1 := andi main_v22 main_v26
  let main_v28 : FVec F S8x64 .f32 := Host.absf main_arg13
  let main_cst_8 : FVec F S_ .f32 := constant S_ .f32 0x7F800000#32
  let main_v29 : FVec F S8x64 .f32 := broadcastInDim S8x64 ![] bcast_S_S8x64 main_cst_8
  let main_v30 : IVec S8x64 1 := cmpf .olt main_v28 main_v29
  let main_c_9 : IVec S_ 1 := constantI S_ 1 1#1
  let main_v31 : IVec S_ 1 := (fun x v => Host.reduce IntOp.andi x v reducesTo_S8x64_S_d0_1 h_S_) main_v30 main_c_9
  let main_v32 : IVec S_ 1 := andi main_v27 main_v31
  main_v32

def fn {F : FTy → Type} [FloatOps F] (main_arg0 : FVec F S16x2048x512 .f32) (main_arg1 : FVec F S16x2048x512 .bf16) (main_arg2 : FVec F S16x2048x512 .bf16) (main_arg3 : FVec F S16x2048x512 .bf16) (main_arg4 : FVec F S16x2048x512 .bf16) (main_arg5 : FVec F S16x2048x512 .bf16) (main_arg6 : FVec F S16x2048x512 .bf16) (main_arg7 : FVec F S16x2048x512 .f32) (main_arg8 : FVec F S16x2048x512 .f32) (main_arg9 : FVec F S16x2048x8192 .bf16) (main_arg10 : FVec F S16x2048x1024 .f32) (main_arg11 : FVec F S16x6x1024 .f32) (main_arg12 : FVec F S512 .f32) (main_arg13 : FVec F S8x64 .f32) (main_arg14 : FVec F S512 .f32) (main_arg15 : FVec F S512 .f32) (main_arg16 : FVec F S512 .f32) (main_arg17 : FVec F S3x512x1024 .f32) (main_arg18 : FVec F S1024x1024 .f32) : IVec S_ 1 :=
  let main_v0 : FVec F S16x2048x512 .f32 := (extf .f32 · bitsLt_bf16_f32) main_arg1
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x2048x512 .f32 := (extf .f32 · bitsLt_bf16_f32) main_arg2
  let main_v6 : FVec F S16x2048x512 .f32 := Host.absf main_v5
  let main_cst_0 : FVec F S_ .f32 := constant S_ .f32 0x7F800000#32
  let main_v7 : FVec F S16x2048x512 .f32 := broadcastInDim S16x2048x512 ![] bcast_S_S16x2048x512 main_cst_0
  let main_v8 : IVec S16x2048x512 1 := cmpf .olt main_v6 main_v7
  let main_c_1 : IVec S_ 1 := constantI S_ 1 1#1
  let main_v9 : IVec S_ 1 := (fun x v => Host.reduce IntOp.andi x v reducesTo_S16x2048x512_S_d0_1_2 h_S_) main_v8 main_c_1
  let main_v10 : IVec S_ 1 := andi main_v4 main_v9
  let main_v11 : FVec F S16x2048x512 .f32 := (extf .f32 · bitsLt_bf16_f32) main_arg5
  let main_v12 : FVec F S16x2048x512 .f32 := Host.absf main_v11
  let main_cst_2 : FVec F S_ .f32 := constant S_ .f32 0x7F800000#32
  let main_v13 : FVec F S16x2048x512 .f32 := broadcastInDim S16x2048x512 ![] bcast_S_S16x2048x512 main_cst_2
  let main_v14 : IVec S16x2048x512 1 := cmpf .olt main_v12 main_v13
  let main_c_3 : IVec S_ 1 := constantI S_ 1 1#1
  let main_v15 : IVec S_ 1 := (fun x v => Host.reduce IntOp.andi x v reducesTo_S16x2048x512_S_d0_1_2 h_S_) main_v14 main_c_3
  let main_v16 : IVec S_ 1 := andi main_v10 main_v15
  let main_v17 : FVec F S16x2048x512 .f32 := (extf .f32 · bitsLt_bf16_f32) main_arg6
  fn_part1 (F := F) main_arg12 main_arg13 main_v16 main_v17
-- ==== Pre_finite_gates.lean ====
abbrev S16x2048x1024 : Shape := ⟨3, ![16, 2048, 1024]⟩
abbrev S16x2048x128 : Shape := ⟨3, ![16, 2048, 128]⟩
abbrev S16x6x1024 : Shape := ⟨3, ![16, 6, 1024]⟩
abbrev S64x1024x128 : Shape := ⟨3, ![64, 1024, 128]⟩
abbrev S64x128x1024 : Shape := ⟨3, ![64, 128, 1024]⟩
abbrev S1024x256 : Shape := ⟨2, ![1024, 256]⟩
abbrev S256x1024 : Shape := ⟨2, ![256, 1024]⟩
abbrev S16x2048x64 : Shape := ⟨3, ![16, 2048, 64]⟩
abbrev S_ : Shape := ⟨0, ![]⟩

class Facts : Prop where
  slices_S16x2048x128_S16x2048x64_0_0_0 : S16x2048x128.Slices ![0, 0, 0] S16x2048x64
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x1024 .bf16) (main_arg1 : FVec F S16x2048x128 .f32) (main_arg2 : FVec F S16x2048x1024 .f32) (main_arg3 : FVec F S16x6x1024 .f32) (main_arg4 : FVec F S64x1024x128 .f32) (main_arg5 : FVec F S64x1024x128 .f32) (main_arg6 : FVec F S64x128x1024 .f32) (main_arg7 : FVec F S1024x256 .f32) (main_arg8 : FVec F S1024x256 .f32) (main_arg9 : FVec F S256x1024 .f32) : IVec S_ 1 :=
  let main_v0 : FVec F S16x2048x64 .f32 := (extractStridedSlice S16x2048x64 ![0, 0, 0] · slices_S16x2048x128_S16x2048x64_0_0_0) main_arg1
  let main_v1 : FVec F S16x2048x64 .f32 := Host.absf main_v0
  let main_cst : FVec F S_ .f32 := constant S_ .f32 0x7F800000#32
  let main_v2 : FVec F S16x2048x64 .f32 := broadcastInDim S16x2048x64 ![] bcast_S_S16x2048x64 main_cst
  let main_v3 : IVec S16x2048x64 1 := cmpf .olt main_v1 main_v2
  let main_c : IVec S_ 1 := constantI S_ 1 1#1
  let main_v4 : IVec S_ 1 := (fun x v => Host.reduce IntOp.andi x v reducesTo_S16x2048x64_S_d0_1_2 h_S_) main_v3 main_c
  main_v4
-- ==== Kernel.lean ====
abbrev S16x2048x512 : Shape := ⟨3, ![16, 2048, 512]⟩
abbrev S16x256x512 : Shape := ⟨3, ![16, 256, 512]⟩
abbrev S8x15x31 : Shape := ⟨3, ![8, 15, 31]⟩
abbrev S64x64 : Shape := ⟨2, ![64, 64]⟩
abbrev S1x1x64x64 : Shape := ⟨4, ![1, 1, 64, 64]⟩
abbrev S_ : Shape := ⟨0, ![]⟩
abbrev S64x64x1 : Shape := ⟨3, ![64, 64, 1]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S4x2x14x64x128 : Shape := ⟨5, ![4, 2, 14, 64, 128]⟩
abbrev S4x14x2x64x128 : Shape := ⟨5, ![4, 14, 2, 64, 128]⟩
abbrev S4x14x128x128 : Shape := ⟨4, ![4, 14, 128, 128]⟩
abbrev S1x512x512 : Shape := ⟨3, ![1, 512, 512]⟩
abbrev S1x2048x512 : Shape := ⟨3, ![1, 2048, 512]⟩
abbrev S1x256x512 : Shape := ⟨3, ![1, 256, 512]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x256x128 : Shape := ⟨3, ![1, 256, 128]⟩
abbrev S256x128 : Shape := ⟨2, ![256, 128]⟩
abbrev S128x256 : Shape := ⟨2, ![128, 256]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 28
  | .vmem => 13
  | .smem => 0
  | _ => 0

abbrev bufTy : (tb : Table) → Fin (tcTables nBuf tb) → BufTy
  | .hbm, ⟨0, _⟩ => ⟨S16x2048x512, .bf16⟩
  | .hbm, ⟨1, _⟩ => ⟨S16x2048x512, .bf16⟩
  | .hbm, ⟨2, _⟩ => ⟨S16x2048x512, .bf16⟩
  | .hbm, ⟨3, _⟩ => ⟨S16x256x512, .bf16⟩
  | .hbm, ⟨4, _⟩ => ⟨S16x256x512, .bf16⟩
  | .hbm, ⟨5, _⟩ => ⟨S8x15x31, .f32⟩
  | .hbm, ⟨6, _⟩ => ⟨S64x64, .i32⟩
  | .hbm, ⟨7, _⟩ => ⟨S64x64, .i1⟩
  | .hbm, ⟨8, _⟩ => ⟨S64x64, .i1⟩
  | .hbm, ⟨9, _⟩ => ⟨S1x1x64x64, .i1⟩
  | .hbm, ⟨10, _⟩ => ⟨S_, .i32⟩
  | .hbm, ⟨11, _⟩ => ⟨S64x64, .i32⟩
  | .hbm, ⟨12, _⟩ => ⟨S64x64, .i32⟩
  | .hbm, ⟨13, _⟩ => ⟨S64x64, .i32⟩
  | .hbm, ⟨14, _⟩ => ⟨S64x64x1, .i32⟩
  | .hbm, ⟨15, _⟩ => ⟨S8x15x64x64, .f32⟩
  | .hbm, ⟨16, _⟩ => ⟨S_, .f32⟩
  | .hbm, ⟨17, _⟩ => ⟨S_, .f32⟩
  | .hbm, ⟨18, _⟩ => ⟨S8x15x64x64, .i1⟩
  | .hbm, ⟨19, _⟩ => ⟨S8x15x64x64, .f32⟩
  | .hbm, ⟨20, _⟩ => ⟨S8x15x64x64, .f32⟩
  | .hbm, ⟨21, _⟩ => ⟨S8x14x64x64, .f32⟩
  | .hbm, ⟨22, _⟩ => ⟨S8x14x64x64, .f32⟩
  | .hbm, ⟨23, _⟩ => ⟨S8x14x64x128, .f32⟩
  | .hbm, ⟨24, _⟩ => ⟨S4x2x14x64x128, .f32⟩
  | .hbm, ⟨25, _⟩ => ⟨S4x14x2x64x128, .f32⟩
  | .hbm, ⟨26, _⟩ => ⟨S4x14x128x128, .f32⟩
  | .hbm, ⟨27, _⟩ => ⟨S16x2048x512, .f32⟩
  | .local _ .vmem, ⟨0, _⟩ => ⟨S1x512x512, .bf16⟩
  | .local _ .vmem, ⟨1, _⟩ => ⟨S1x512x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S4x14x128x128, .f32⟩
  | .local _ .vmem, ⟨11, _⟩ => ⟨S1x512x512, .f32⟩
  | .local _ .vmem, ⟨12, _⟩ => ⟨S1x512x512, .f32⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_c_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let c0_i32 : BitVec 32 := 0#32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let c64_i32_1 : BitVec 32 := 64#32
  let v8 : BitVec 32 := Scalar.muli v7 c64_i32_1
  v8
def k0_mult2 (i : grid0.Coords) : BitVec 32 :=
  let c24_i32_13 : BitVec 32 := 24#32
  let c0_i32_12 : BitVec 32 := 0#32
  let arg1 : BitVec 32 := BitVec.ofNat 32 (i 1).val
  let c8_i32_9 : BitVec 32 := 8#32
  let v22 : BitVec 32 := Scalar.muli arg1 c8_i32_9
  let c1_i32_10 : BitVec 32 := 1#32
  let v23 : BitVec 32 := Scalar.addi v22 c1_i32_10
  let c4_i32_11 : BitVec 32 := 4#32
  let v24 : BitVec 32 := Scalar.subi v23 c4_i32_11
  let v25 : BitVec 32 := Scalar.maxsi c0_i32_12 v24
  let v26 : BitVec 32 := Scalar.minsi c24_i32_13 v25
  let c64_i32_14 : BitVec 32 := 64#32
  let v27 : BitVec 32 := Scalar.muli v26 c64_i32_14
  v27
def k0_mult3 (i : grid0.Coords) : BitVec 32 :=
  let c24_i32_26 : BitVec 32 := 24#32
  let c0_i32_25 : BitVec 32 := 0#32
  let arg1 : BitVec 32 := BitVec.ofNat 32 (i 1).val
  let c8_i32_23 : BitVec 32 := 8#32
  let v41 : BitVec 32 := Scalar.muli arg1 c8_i32_23
  let c2_i32 : BitVec 32 := 2#32
  let v42 : BitVec 32 := Scalar.addi v41 c2_i32
  let c4_i32_24 : BitVec 32 := 4#32
  let v43 : BitVec 32 := Scalar.subi v42 c4_i32_24
  let v44 : BitVec 32 := Scalar.maxsi c0_i32_25 v43
  let v45 : BitVec 32 := Scalar.minsi c24_i32_26 v44
  let c64_i32_27 : BitVec 32 := 64#32
  let v46 : BitVec 32 := Scalar.muli v45 c64_i32_27
  v46
def k0_mult4 (i : grid0.Coords) : BitVec 32 :=
  let c24_i32_39 : BitVec 32 := 24#32
  let c0_i32_38 : BitVec 32 := 0#32
  let arg1 : BitVec 32 := BitVec.ofNat 32 (i 1).val
  let c8_i32_36 : BitVec 32 := 8#32
  let v60 : BitVec 32 := Scalar.muli arg1 c8_i32_36
  let c3_i32 : BitVec 32 := 3#32
  let v61 : BitVec 32 := Scalar.addi v60 c3_i32
  let c4_i32_37 : BitVec 32 := 4#32
  let v62 : BitVec 32 := Scalar.subi v61 c4_i32_37
  let v63 : BitVec 32 := Scalar.maxsi c0_i32_38 v62
  let v64 : BitVec 32 := Scalar.minsi c24_i32_39 v63
  let c64_i32_40 : BitVec 32 := 64#32
  let v65 : BitVec 32 := Scalar.muli v64 c64_i32_40
  v65
def k0_mult5 (i : grid0.Coords) : BitVec 32 :=
  let c24_i32_53 : BitVec 32 := 24#32
  let c0_i32_52 : BitVec 32 := 0#32
  let arg1 : BitVec 32 := BitVec.ofNat 32 (i 1).val
  let c8_i32_49 : BitVec 32 := 8#32
  let v79 : BitVec 32 := Scalar.muli arg1 c8_i32_49
  let c4_i32_50 : BitVec 32 := 4#32
  let v80 : BitVec 32 := Scalar.addi v79 c4_i32_50
  let c4_i32_51 : BitVec 32 := 4#32
  let v81 : BitVec 32 := Scalar.subi v80 c4_i32_51
  let v82 : BitVec 32 := Scalar.maxsi c0_i32_52 v81
  let v83 : BitVec 32 := Scalar.minsi c24_i32_53 v82
  let c64_i32_54 : BitVec 32 := 64#32
  let v84 : BitVec 32 := Scalar.muli v83 c64_i32_54
  v84
def k0_mult6 (i : grid0.Coords) : BitVec 32 :=
  let c24_i32_66 : BitVec 32 := 24#32
  let c0_i32_65 : BitVec 32 := 0#32
  let arg1 : BitVec 32 := BitVec.ofNat 32 (i 1).val
  let c8_i32_63 : BitVec 32 := 8#32
  let v98 : BitVec 32 := Scalar.muli arg1 c8_i32_63
  let c5_i32 : BitVec 32 := 5#32
  let v99 : BitVec 32 := Scalar.addi v98 c5_i32
  let c4_i32_64 : BitVec 32 := 4#32
  let v100 : BitVec 32 := Scalar.subi v99 c4_i32_64
  let v101 : BitVec 32 := Scalar.maxsi c0_i32_65 v100
  let v102 : BitVec 32 := Scalar.minsi c24_i32_66 v101
  let c64_i32_67 : BitVec 32 := 64#32
  let v103 : BitVec 32 := Scalar.muli v102 c64_i32_67
  v103
def k0_mult7 (i : grid0.Coords) : BitVec 32 :=
  let c24_i32_79 : BitVec 32 := 24#32
  let c0_i32_78 : BitVec 32 := 0#32
  let arg1 : BitVec 32 := BitVec.ofNat 32 (i 1).val
  let c8_i32_76 : BitVec 32 := 8#32
  let v117 : BitVec 32 := Scalar.muli arg1 c8_i32_76
  let c6_i32 : BitVec 32 := 6#32
  let v118 : BitVec 32 := Scalar.addi v117 c6_i32
  let c4_i32_77 : BitVec 32 := 4#32
  let v119 : BitVec 32 := Scalar.subi v118 c4_i32_77
  let v120 : BitVec 32 := Scalar.maxsi c0_i32_78 v119
  let v121 : BitVec 32 := Scalar.minsi c24_i32_79 v120
  let c64_i32_80 : BitVec 32 := 64#32
  let v122 : BitVec 32 := Scalar.muli v121 c64_i32_80
  v122
def k0_mult8 (i : grid0.Coords) : BitVec 32 :=
  let c24_i32_92 : BitVec 32 := 24#32
  let c0_i32_91 : BitVec 32 := 0#32
  let arg1 : BitVec 32 := BitVec.ofNat 32 (i 1).val
  let c8_i32_89 : BitVec 32 := 8#32
  let v136 : BitVec 32 := Scalar.muli arg1 c8_i32_89
  let c7_i32 : BitVec 32 := 7#32
  let v137 : BitVec 32 := Scalar.addi v136 c7_i32
  let c4_i32_90 : BitVec 32 := 4#32
  let v138 : BitVec 32 := Scalar.subi v137 c4_i32_90
  let v139 : BitVec 32 := Scalar.maxsi c0_i32_91 v138
  let v140 : BitVec 32 := Scalar.minsi c24_i32_92 v139
  let c64_i32_93 : BitVec 32 := 64#32
  let v141 : BitVec 32 := Scalar.muli v140 c64_i32_93
  v141
def k0_off1 (i : grid0.Coords) (c0_i32 : BitVec 32) : Fin 3 → Nat :=
  let c0_221 : Index := 0#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let c64_i32_1 : BitVec 32 := 64#32
  let v8 : BitVec 32 := Scalar.muli v7 c64_i32_1
  let v9 : BitVec 32 := v8
  let v347 : Index := Scalar.indexCast v9
  let c0_222 : Index := 0#32
  ![0, v347.toNat, 0]
def k0_off2 (i : grid0.Coords) (c0_i32 : BitVec 32) : Fin 3 → Nat :=
  let c0_224 : Index := 0#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let c64_i32_1 : BitVec 32 := 64#32
  let v8 : BitVec 32 := Scalar.muli v7 c64_i32_1
  let v9 : BitVec 32 := v8
  let v351 : Index := Scalar.indexCast v9
  let c128_225 : Index := 128#32
  ![0, v351.toNat, 128]
def k0_off3 (i : grid0.Coords) (c0_i32 : BitVec 32) : Fin 3 → Nat :=
  let c0_227 : Index := 0#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let c64_i32_1 : BitVec 32 := 64#32
  let v8 : BitVec 32 := Scalar.muli v7 c64_i32_1
  let v9 : BitVec 32 := v8
  let v355 : Index := Scalar.indexCast v9
  let c256_228 : Index := 256#32
  ![0, v355.toNat, 256]
def k0_off4 (i : grid0.Coords) (c0_i32 : BitVec 32) : Fin 3 → Nat :=
  let c0_230 : Index := 0#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let c64_i32_1 : BitVec 32 := 64#32
  let v8 : BitVec 32 := Scalar.muli v7 c64_i32_1
  let v9 : BitVec 32 := v8
  let v359 : Index := Scalar.indexCast v9
  let c384_231 : Index := 384#32
  ![0, v359.toNat, 384]
def k0_off5 (i : grid0.Coords) (c0_i32 : BitVec 32) (c0_i32_445 : BitVec 32) : Fin 4 → Nat :=
  let c0_446 : Index := 0#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let v10 : BitVec 32 := Scalar.subi v7 v4
  let c8_i32_2 : BitVec 32 := 8#32
  let v11 : BitVec 32 := Scalar.addi v10 c8_i32_2
  let c1_i32 : BitVec 32 := 1#32
  let v12 : BitVec 32 := Scalar.subi v11 c1_i32
  let v571 : BitVec 32 := Scalar.addi v12 c0_i32_445
  let v572 : Index := Scalar.indexCast v571
  let c0_447 : Index := 0#32
  let c0_448 : Index := 0#32
  ![0, v572.toNat, 0, 0]
def k0_off6 (i : grid0.Coords) (c0_i32 : BitVec 32) (c0_i32_465 : BitVec 32) : Fin 4 → Nat :=
  let c1 : Index := 1#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let v13 : BitVec 32 := Scalar.subi v7 v4
  let c8_i32_3 : BitVec 32 := 8#32
  let v14 : BitVec 32 := Scalar.addi v13 c8_i32_3
  let c1_i32_4 : BitVec 32 := 1#32
  let v15 : BitVec 32 := Scalar.subi v14 c1_i32_4
  let v607 : BitVec 32 := Scalar.addi v15 c0_i32_465
  let v608 : Index := Scalar.indexCast v607
  let c0_466 : Index := 0#32
  let c0_467 : Index := 0#32
  ![1, v608.toNat, 0, 0]
def k0_off7 (i : grid0.Coords) (c0_i32 : BitVec 32) (c0_i32_484 : BitVec 32) : Fin 4 → Nat :=
  let c2 : Index := 2#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let v16 : BitVec 32 := Scalar.subi v7 v4
  let c8_i32_5 : BitVec 32 := 8#32
  let v17 : BitVec 32 := Scalar.addi v16 c8_i32_5
  let c1_i32_6 : BitVec 32 := 1#32
  let v18 : BitVec 32 := Scalar.subi v17 c1_i32_6
  let v643 : BitVec 32 := Scalar.addi v18 c0_i32_484
  let v644 : Index := Scalar.indexCast v643
  let c0_485 : Index := 0#32
  let c0_486 : Index := 0#32
  ![2, v644.toNat, 0, 0]
def k0_off8 (i : grid0.Coords) (c0_i32 : BitVec 32) (c0_i32_503 : BitVec 32) : Fin 4 → Nat :=
  let c3 : Index := 3#32
  let c24_i32 : BitVec 32 := 24#32
  let c0_i32_0 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32
  let c4_i32 : BitVec 32 := 4#32
  let v5 : BitVec 32 := Scalar.subi v4 c4_i32
  let v6 : BitVec 32 := Scalar.maxsi c0_i32_0 v5
  let v7 : BitVec 32 := Scalar.minsi c24_i32 v6
  let v19 : BitVec 32 := Scalar.subi v7 v4
  let c8_i32_7 : BitVec 32 := 8#32
  let v20 : BitVec 32 := Scalar.addi v19 c8_i32_7
  let c1_i32_8 : BitVec 32 := 1#32
  let v21 : BitVec 32 := Scalar.subi v20 c1_i32_8
  let v679 : BitVec 32 := Scalar.addi v21 c0_i32_503
  let v680 : Index := Scalar.indexCast v679
  let c0_504 : Index := 0#32
  let c0_505 : Index := 0#32
  ![3, v680.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x14x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2048x512 : Shape := ⟨3, ![16, 2048, 512]⟩
abbrev S16x256x512 : Shape := ⟨3, ![16, 256, 512]⟩
abbrev S8x15x31 : Shape := ⟨3, ![8, 15, 31]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x2 : Shape := ⟨3, ![2048, 2048, 2]⟩
abbrev S8x2048x2048 : Shape := ⟨3, ![8, 2048, 2048]⟩
abbrev S16x2048x8x64 : Shape := ⟨4, ![16, 2048, 8, 64]⟩
abbrev S16x8x2048x2048 : Shape := ⟨4, ![16, 8, 2048, 2048]⟩
abbrev S1x8x2048x2048 : Shape := ⟨4, ![1, 8, 2048, 2048]⟩
abbrev S16x256x8x64 : Shape := ⟨4, ![16, 256, 8, 64]⟩
abbrev S16x8x2048x256 : Shape := ⟨4, ![16, 8, 2048, 256]⟩
abbrev S16x8x2048x2304 : Shape := ⟨4, ![16, 8, 2048, 2304]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 159
  | .vmem => 0
  | .smem => 0
  | _ => 0

abbrev hbmTy0_0 (i : Nat) : BufTy := match i % 128 with
  | 0 => ⟨S16x2048x512, .bf16⟩
  | 1 => ⟨S16x2048x512, .bf16⟩
  | 2 => ⟨S16x2048x512, .bf16⟩
  | 3 => ⟨S16x256x512, .bf16⟩
  | 4 => ⟨S16x256x512, .bf16⟩
  | 5 => ⟨S8x15x31, .f32⟩
  | 6 => ⟨S32, .i32⟩
  | 7 => ⟨S32x1, .i32⟩
  | 8 => ⟨S32x64, .i32⟩
  | 9 => ⟨S2048, .i32⟩
  | 10 => ⟨S64, .i32⟩
  | 11 => ⟨S1x64, .i32⟩
  | 12 => ⟨S32x64, .i32⟩
  | 13 => ⟨S2048, .i32⟩
  | 14 => ⟨S_, .i32⟩
  | 15 => ⟨S2048, .i32⟩
  | 16 => ⟨S2048, .i32⟩
  | 17 => ⟨S_, .i32⟩
  | 18 => ⟨S_, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S2048x1, .i32⟩
  | 26 => ⟨S_, .i32⟩
  | 27 => ⟨S2048, .i32⟩
  | 28 => ⟨S2048, .i32⟩
  | 29 => ⟨S_, .i32⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S2048x1, .i32⟩
  | 38 => ⟨S1x2048, .i32⟩
  | 39 => ⟨S2048x2048, .i32⟩
  | 40 => ⟨S2048x2048, .i32⟩
  | 41 => ⟨S2048x2048, .i1⟩
  | 42 => ⟨S_, .i32⟩
  | 43 => ⟨S2048x1, .i32⟩
  | 44 => ⟨S2048x1, .i32⟩
  | 45 => ⟨S1x2048, .i32⟩
  | 46 => ⟨S2048x2048, .i32⟩
  | 47 => ⟨S2048x2048, .i32⟩
  | 48 => ⟨S2048x2048, .i1⟩
  | 49 => ⟨S2048x2048, .i1⟩
  | 50 => ⟨S1x2048, .i32⟩
  | 51 => ⟨S2048x2048, .i32⟩
  | 52 => ⟨S2048x2048, .i32⟩
  | 53 => ⟨S2048x2048, .i1⟩
  | 54 => ⟨S_, .i32⟩
  | 55 => ⟨S2048x1, .i32⟩
  | 56 => ⟨S2048x1, .i32⟩
  | 57 => ⟨S1x2048, .i32⟩
  | 58 => ⟨S2048x2048, .i32⟩
  | 59 => ⟨S2048x2048, .i32⟩
  | 60 => ⟨S2048x2048, .i1⟩
  | 61 => ⟨S2048x2048, .i1⟩
  | 62 => ⟨S2048x1, .i32⟩
  | 63 => ⟨S1x2048, .i32⟩
  | 64 => ⟨S2048x2048, .i32⟩
  | 65 => ⟨S2048x2048, .i32⟩
  | 66 => ⟨S2048x2048, .i32⟩
  | 67 => ⟨S_, .i32⟩
  | 68 => ⟨S2048x2048, .i32⟩
  | 69 => ⟨S2048x2048, .i32⟩
  | 70 => ⟨S_, .i32⟩
  | 71 => ⟨S2048x2048, .i32⟩
  | 72 => ⟨S2048x2048, .i32⟩
  | 73 => ⟨S_, .i32⟩
  | 74 => ⟨S_, .i32⟩
  | 75 => ⟨S_, .i32⟩
  | 76 => ⟨S2048x2048, .i32⟩
  | 77 => ⟨S2048x2048, .i32⟩
  | 78 => ⟨S_, .i32⟩
  | 79 => ⟨S2048x2048, .i32⟩
  | 80 => ⟨S2048x2048, .i32⟩
  | 81 => ⟨S2048x1, .i32⟩
  | 82 => ⟨S1x2048, .i32⟩
  | 83 => ⟨S2048x2048, .i32⟩
  | 84 => ⟨S2048x2048, .i32⟩
  | 85 => ⟨S2048x2048, .i32⟩
  | 86 => ⟨S_, .i32⟩
  | 87 => ⟨S2048x2048, .i32⟩
  | 88 => ⟨S2048x2048, .i32⟩
  | 89 => ⟨S_, .i32⟩
  | 90 => ⟨S2048x2048, .i32⟩
  | 91 => ⟨S2048x2048, .i32⟩
  | 92 => ⟨S_, .i32⟩
  | 93 => ⟨S_, .i32⟩
  | 94 => ⟨S_, .i32⟩
  | 95 => ⟨S2048x2048, .i32⟩
  | 96 => ⟨S2048x2048, .i32⟩
  | 97 => ⟨S_, .i32⟩
  | 98 => ⟨S2048x2048, .i32⟩
  | 99 => ⟨S2048x2048, .i32⟩
  | 100 => ⟨S_, .i32⟩
  | 101 => ⟨S2048x2048, .i32⟩
  | 102 => ⟨S2048x2048, .i1⟩
  | 103 => ⟨S_, .i32⟩
  | 104 => ⟨S2048x2048, .i32⟩
  | 105 => ⟨S2048x2048, .i32⟩
  | 106 => ⟨S2048x2048, .i32⟩
  | 107 => ⟨S_, .i32⟩
  | 108 => ⟨S2048x2048, .i32⟩
  | 109 => ⟨S2048x2048, .i1⟩
  | 110 => ⟨S_, .i32⟩
  | 111 => ⟨S2048x2048, .i32⟩
  | 112 => ⟨S2048x2048, .i32⟩
  | 113 => ⟨S2048x2048, .i32⟩
  | 114 => ⟨S2048x2048x1, .i32⟩
  | 115 => ⟨S2048x2048x1, .i32⟩
  | 116 => ⟨S2048x2048x2, .i32⟩
  | 117 => ⟨S8x2048x2048, .f32⟩
  | 118 => ⟨S16x2048x8x64, .bf16⟩
  | 119 => ⟨S16x2048x8x64, .bf16⟩
  | 120 => ⟨S16x8x2048x2048, .f32⟩
  | 121 => ⟨S2048x2048, .i1⟩
  | 122 => ⟨S1x8x2048x2048, .f32⟩
  | 123 => ⟨S16x8x2048x2048, .f32⟩
  | 124 => ⟨S16x8x2048x2048, .f32⟩
  | 125 => ⟨S_, .f32⟩
  | 126 => ⟨S_, .f32⟩
  | 127 => ⟨S16x8x2048x2048, .i1⟩
  | _ => ⟨S16x2048x512, .bf16⟩

abbrev hbmTy0_1 (i : Nat) : BufTy := match i % 128 with
  | 0 => ⟨S16x8x2048x2048, .f32⟩
  | 1 => ⟨S16x8x2048x2048, .f32⟩
  | 2 => ⟨S16x2048x8x64, .bf16⟩
  | 3 => ⟨S16x256x8x64, .bf16⟩
  | 4 => ⟨S16x8x2048x256, .f32⟩
  | 5 => ⟨S16x8x2048x2304, .f32⟩
  | 6 => ⟨S_, .f32⟩
  | 7 => ⟨S16x8x2048, .f32⟩
  | 8 => ⟨S_, .f32⟩
  | 9 => ⟨S16x8x2048, .f32⟩
  | 10 => ⟨S16x8x2048, .f32⟩
  | 11 => ⟨S16x8x2048x1, .f32⟩
  | 12 => ⟨S16x8x2048x2304, .f32⟩
  | 13 => ⟨S16x8x2048x2304, .f32⟩
  | 14 => ⟨S16x8x2048x2304, .f32⟩
  | 15 => ⟨S_, .f32⟩
  | 16 => ⟨S16x8x2048, .f32⟩
  | 17 => ⟨S16x8x2048x1, .f32⟩
  | 18 => ⟨S16x8x2048x2304, .f32⟩
  | 19 => ⟨S16x8x2048x2304, .f32⟩
  | 20 => ⟨S16x8x2048x2304, .bf16⟩
  | 21 => ⟨S16x8x2048x2048, .bf16⟩
  | 22 => ⟨S16x2048x8x64, .bf16⟩
  | 23 => ⟨S16x8x64x2048, .f32⟩
  | 24 => ⟨S16x2048x8x64, .f32⟩
  | 25 => ⟨S16x8x2048x256, .bf16⟩
  | 26 => ⟨S16x256x8x64, .bf16⟩
  | 27 => ⟨S16x8x64x2048, .f32⟩
  | 28 => ⟨S16x2048x8x64, .f32⟩
  | 29 => ⟨S16x2048x8x64, .f32⟩
  | 30 => ⟨S16x2048x512, .f32⟩
  | _ => ⟨S16x2048x512, .bf16⟩

abbrev hbmTy (i : Nat) : BufTy := match i / 128 with
  | 0 => hbmTy0_0 i
  | 1 => hbmTy0_1 i
  | _ => ⟨S16x2048x512, .bf16⟩

abbrev bufTy : (tb : Table) → Fin (tcTables nBuf tb) → BufTy
  | .hbm, ⟨i, _⟩ => hbmTy i
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_c_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_c_10 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_c_12 : Ref sig .tc := ⟨.hbm, 89, rfl⟩
abbrev main_v55 : Ref sig .tc := ⟨.hbm, 90, rfl⟩
abbrev main_v56 : Ref sig .tc := ⟨.hbm, 91, rfl⟩
abbrev main_c_13 : Ref sig .tc := ⟨.hbm, 92, rfl⟩
abbrev main_c_14 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v57 : Ref sig .tc := ⟨.hbm, 99, rfl⟩
abbrev main_c_15 : Ref sig .tc := ⟨.hbm, 100, rfl⟩
abbrev main_v58 : Ref sig .tc := ⟨.hbm, 101, rfl⟩
abbrev main_v59 : Ref sig .tc := ⟨.hbm, 102, rfl⟩
abbrev main_c_16 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_17 : Ref sig .tc := ⟨.hbm, 107, rfl⟩
abbrev main_v63 : Ref sig .tc := ⟨.hbm, 108, rfl⟩
abbrev main_v64 : Ref sig .tc := ⟨.hbm, 109, rfl⟩
abbrev main_c_18 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_19 : Ref sig .tc := ⟨.hbm, 134, rfl⟩
abbrev main_v84 : Ref sig .tc := ⟨.hbm, 135, rfl⟩
abbrev main_cst_20 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_cst_21 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x128 : Shape := ⟨3, ![16, 2048, 128]⟩
abbrev S16x6x1024 : Shape := ⟨3, ![16, 6, 1024]⟩
abbrev S64x1024x128 : Shape := ⟨3, ![64, 1024, 128]⟩
abbrev S64x128x1024 : Shape := ⟨3, ![64, 128, 1024]⟩
abbrev S1024x256 : Shape := ⟨2, ![1024, 256]⟩
abbrev S256x1024 : Shape := ⟨2, ![256, 1024]⟩
abbrev S8x128x128 : Shape := ⟨3, ![8, 128, 128]⟩
abbrev S1024x64x128 : Shape := ⟨3, ![1024, 64, 128]⟩
abbrev S1024x8192 : Shape := ⟨2, ![1024, 8192]⟩
abbrev S8192x1024 : Shape := ⟨2, ![8192, 1024]⟩
abbrev S1x1024x1024 : Shape := ⟨3, ![1, 1024, 1024]⟩
abbrev S1x1024x128 : Shape := ⟨3, ![1, 1024, 128]⟩
abbrev S1x6x1024 : Shape := ⟨3, ![1, 6, 1024]⟩
abbrev S1x128x128 : Shape := ⟨3, ![1, 128, 128]⟩
abbrev S1024x1024 : Shape := ⟨2, ![1024, 1024]⟩
abbrev S1x2048x1024 : Shape := ⟨3, ![1, 2048, 1024]⟩
abbrev S1024x128 : Shape := ⟨2, ![1024, 128]⟩
abbrev S128x128 : Shape := ⟨2, ![128, 128]⟩
abbrev S1024x1 : Shape := ⟨2, ![1024, 1]⟩
abbrev S1x1x1024 : Shape := ⟨3, ![1, 1, 1024]⟩
abbrev S1x1024 : Shape := ⟨2, ![1, 1024]⟩

abbrev nBuf : Space → Nat
  | .hbm => 23
  | .vmem => 21
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x128, .f32⟩
  | .hbm, ⟨2, _⟩ => ⟨S16x2048x1024, .f32⟩
  | .hbm, ⟨3, _⟩ => ⟨S16x6x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S8x128x128, .bf16⟩
  | .hbm, ⟨11, _⟩ => ⟨S1024x64x128, .f32⟩
  | .hbm, ⟨12, _⟩ => ⟨S1024x8192, .f32⟩
  | .hbm, ⟨13, _⟩ => ⟨S1024x8192, .bf16⟩
  | .hbm, ⟨14, _⟩ => ⟨S1024x64x128, .f32⟩
  | .hbm, ⟨15, _⟩ => ⟨S1024x8192, .f32⟩
  | .hbm, ⟨16, _⟩ => ⟨S1024x8192, .bf16⟩
  | .hbm, ⟨17, _⟩ => ⟨S8192x1024, .f32⟩
  | .hbm, ⟨18, _⟩ => ⟨S8192x1024, .bf16⟩
  | .hbm, ⟨19, _⟩ => ⟨S1024x256, .bf16⟩
  | .hbm, ⟨20, _⟩ => ⟨S1024x256, .bf16⟩
  | .hbm, ⟨21, _⟩ => ⟨S256x1024, .bf16⟩
  | .hbm, ⟨22, _⟩ => ⟨S16x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x128x128, .bf16⟩
  | .local _ .vmem, ⟨9, _⟩ => ⟨S1x128x128, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S256x1024, .bf16⟩
  | .local _ .vmem, ⟨19, _⟩ => ⟨S1x2048x1024, .f32⟩
  | .local _ .vmem, ⟨20, _⟩ => ⟨S1x2048x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![16, 8, 2], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_2 : BitVec 32 := 0#32
  let v6 : BitVec 1 := Scalar.cmpi .ne v5 c0_i32_2
  v6

def k0_off1 (i : grid0.Coords) : Fin 3 → Nat :=
  let c0_33 : Index := 0#32
  let arg2 : BitVec 32 := BitVec.ofNat 32 (i 2).val
  let c1024_i32 : BitVec 32 := 1024#32
  let v0 : BitVec 32 := Scalar.muli arg2 c1024_i32
  let v1 : BitVec 32 := v0
  let v88 : Index := Scalar.indexCast v1
  let c0_34 : Index := 0#32
  ![0, v88.toNat, 0]
def k0_off2 (i : grid0.Coords) : Fin 3 → Nat :=
  let c0_16 : Index := 0#32
  let arg2 : BitVec 32 := BitVec.ofNat 32 (i 2).val
  let c1024_i32 : BitVec 32 := 1024#32
  let v0 : BitVec 32 := Scalar.muli arg2 c1024_i32
  let v1 : BitVec 32 := v0
  let v60 : Index := Scalar.indexCast v1
  let c0_17 : Index := 0#32
  ![0, v60.toNat, 0]
def k0_cond2 (i : grid0.Coords) : BitVec 1 :=
  let arg1 : BitVec 32 := BitVec.ofNat 32 (i 1).val
  let c7_i32 : BitVec 32 := 7#32
  let v72 : BitVec 1 := Scalar.cmpi .eq arg1 c7_i32
  let v73 : BitVec 32 := Scalar.extui v72
  let c0_i32_23 : BitVec 32 := 0#32
  let v74 : BitVec 1 := Scalar.cmpi .ne v73 c0_i32_23
  v74

def k0_off3 (i : grid0.Coords) : Fin 3 → Nat :=
  let c0_29 : Index := 0#32
  let arg2 : BitVec 32 := BitVec.ofNat 32 (i 2).val
  let c1024_i32 : BitVec 32 := 1024#32
  let v0 : BitVec 32 := Scalar.muli arg2 c1024_i32
  let v1 : BitVec 32 := v0
  let v79 : Index := Scalar.indexCast v1
  let c0_30 : Index := 0#32
  ![0, v79.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg1 c7_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x2048x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== Reference2Ideal.lean ====
abbrev S16x2048x1024 : Shape := ⟨3, ![16, 2048, 1024]⟩
abbrev S16x2048x128 : Shape := ⟨3, ![16, 2048, 128]⟩
abbrev S16x6x1024 : Shape := ⟨3, ![16, 6, 1024]⟩
abbrev S64x1024x128 : Shape := ⟨3, ![64, 1024, 128]⟩
abbrev S64x128x1024 : Shape := ⟨3, ![64, 128, 1024]⟩
abbrev S1024x256 : Shape := ⟨2, ![1024, 256]⟩
abbrev S256x1024 : Shape := ⟨2, ![256, 1024]⟩
abbrev S16x2048x64 : Shape := ⟨3, ![16, 2048, 64]⟩
abbrev S16x1x1024 : Shape := ⟨3, ![16, 1, 1024]⟩
abbrev S16x2048x64x128 : Shape := ⟨4, ![16, 2048, 64, 128]⟩
abbrev S_ : Shape := ⟨0, ![]⟩
abbrev S16x2048x64x1 : Shape := ⟨4, ![16, 2048, 64, 1]⟩
abbrev S16x2048x256 : Shape := ⟨3, ![16, 2048, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x128, .f32⟩
  | .hbm, ⟨2, _⟩ => ⟨S16x2048x1024, .f32⟩
  | .hbm, ⟨3, _⟩ => ⟨S16x6x1024, .f32⟩
  | .hbm, ⟨4, _⟩ => ⟨S64x1024x128, .f32⟩
  | .hbm, ⟨5, _⟩ => ⟨S64x1024x128, .f32⟩
  | .hbm, ⟨6, _⟩ => ⟨S64x128x1024, .f32⟩
  | .hbm, ⟨7, _⟩ => ⟨S1024x256, .f32⟩
  | .hbm, ⟨8, _⟩ => ⟨S1024x256, .f32⟩
  | .hbm, ⟨9, _⟩ => ⟨S256x1024, .f32⟩
  | .hbm, ⟨10, _⟩ => ⟨S16x2048x1024, .f32⟩
  | .hbm, ⟨11, _⟩ => ⟨S16x2048x64, .f32⟩
  | .hbm, ⟨12, _⟩ => ⟨S16x1x1024, .f32⟩
  | .hbm, ⟨13, _⟩ => ⟨S16x2048x64x128, .f32⟩
  | .hbm, ⟨14, _⟩ => ⟨S16x2048x64x128, .f32⟩
  | .hbm, ⟨15, _⟩ => ⟨S16x2048x64x128, .f32⟩
  | .hbm, ⟨16, _⟩ => ⟨S16x2048x64x128, .f32⟩
  | .hbm, ⟨17, _⟩ => ⟨S_, .f32⟩
  | .hbm, ⟨18, _⟩ => ⟨S16x2048x64x128, .f32⟩
  | .hbm, ⟨19, _⟩ => ⟨S16x2048x64x128, .f32⟩
  | .hbm, ⟨20, _⟩ => ⟨S_, .f32⟩
  | .hbm, ⟨21, _⟩ => ⟨S16x2048x64x128, .f32⟩
  | .hbm, ⟨22, _⟩ => ⟨S16x2048x64x128, .f32⟩
  | .hbm, ⟨23, _⟩ => ⟨S16x2048x64x128, .f32⟩
  | .hbm, ⟨24, _⟩ => ⟨S16x2048x64x128, .f32⟩
  | .hbm, ⟨25, _⟩ => ⟨S16x2048x64x1, .f32⟩
  | .hbm, ⟨26, _⟩ => ⟨S16x2048x64x128, .f32⟩
  | .hbm, ⟨27, _⟩ => ⟨S16x2048x64x128, .f32⟩
  | .hbm, ⟨28, _⟩ => ⟨S16x2048x1024, .f32⟩
  | .hbm, ⟨29, _⟩ => ⟨S16x2048x256, .f32⟩
  | .hbm, ⟨30, _⟩ => ⟨S16x2048x256, .f32⟩
  | .hbm, ⟨31, _⟩ => ⟨S16x2048x256, .f32⟩
  | .hbm, ⟨32, _⟩ => ⟨S_, .f32⟩
  | .hbm, ⟨33, _⟩ => ⟨S16x2048x256, .f32⟩
  | .hbm, ⟨34, _⟩ => ⟨S16x2048x256, .f32⟩
  | .hbm, ⟨35, _⟩ => ⟨S_, .f32⟩
  | .hbm, ⟨36, _⟩ => ⟨S16x2048x256, .f32⟩
  | .hbm, ⟨37, _⟩ => ⟨S16x2048x256, .f32⟩
  | .hbm, ⟨38, _⟩ => ⟨S16x2048x256, .f32⟩
  | .hbm, ⟨39, _⟩ => ⟨S16x2048x256, .f32⟩
  | .hbm, ⟨40, _⟩ => ⟨S16x2048x256, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S16x6x1024 : Shape := ⟨3, ![16, 6, 1024]⟩
abbrev S1024x8192 : Shape := ⟨2, ![1024, 8192]⟩
abbrev S1x1024 : Shape := ⟨2, ![1, 1024]⟩
abbrev S16x2048x8192 : Shape := ⟨3, ![16, 2048, 8192]⟩
abbrev S1x1024x1024 : Shape := ⟨3, ![1, 1024, 1024]⟩
abbrev S1x6x1024 : Shape := ⟨3, ![1, 6, 1024]⟩
abbrev S1024x1024 : Shape := ⟨2, ![1024, 1024]⟩
abbrev S1x1x1024 : Shape := ⟨3, ![1, 1, 1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x6x1024, .f32⟩
  | .hbm, ⟨3, _⟩ => ⟨S1024x8192, .bf16⟩
  | .hbm, ⟨4, _⟩ => ⟨S1x1024, .f32⟩
  | .hbm, ⟨5, _⟩ => ⟨S16x2048x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1024x1024, .bf16⟩
  | .local _ .vmem, ⟨6, _⟩ => ⟨S1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S16x2048x1024 : Shape := ⟨3, ![16, 2048, 1024]⟩
abbrev S1024 : Shape := ⟨1, ![1024]⟩
abbrev S16x6x1024 : Shape := ⟨3, ![16, 6, 1024]⟩
abbrev S1024x8192 : Shape := ⟨2, ![1024, 8192]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x8192 : Shape := ⟨3, ![16, 2048, 8192]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S16x6x1024, .f32⟩
  | .hbm, ⟨3, _⟩ => ⟨S1024x8192, .bf16⟩
  | .hbm, ⟨4, _⟩ => ⟨S16x1x1024, .f32⟩
  | .hbm, ⟨5, _⟩ => ⟨S16x1x1024, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x1x1024, .f32⟩
  | .hbm, ⟨24, _⟩ => ⟨S16x1x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S1024x8192, .f32⟩
  | .hbm, ⟨30, _⟩ => ⟨S16x2048x8192, .f32⟩
  | .hbm, ⟨31, _⟩ => ⟨S16x2048x8192, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel4.lean ====
abbrev S16x2048x512 : Shape := ⟨3, ![16, 2048, 512]⟩
abbrev S16x2048x8192 : Shape := ⟨3, ![16, 2048, 8192]⟩
abbrev S16x2048x1024 : Shape := ⟨3, ![16, 2048, 1024]⟩
abbrev S16x6x1024 : Shape := ⟨3, ![16, 6, 1024]⟩
abbrev S512 : Shape := ⟨1, ![512]⟩
abbrev S8x64 : Shape := ⟨2, ![8, 64]⟩
abbrev S3x512x1024 : Shape := ⟨3, ![3, 512, 1024]⟩
abbrev S1024x1024 : Shape := ⟨2, ![1024, 1024]⟩
abbrev S1x512 : Shape := ⟨2, ![1, 512]⟩
abbrev S1x512x512 : Shape := ⟨3, ![1, 512, 512]⟩
abbrev S1x512x1024 : Shape := ⟨3, ![1, 512, 1024]⟩
abbrev S1x6x1024 : Shape := ⟨3, ![1, 6, 1024]⟩
abbrev S512x512 : Shape := ⟨2, ![512, 512]⟩
abbrev S512x128 : Shape := ⟨2, ![512, 128]⟩
abbrev S512x1 : Shape := ⟨2, ![512, 1]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 27
  | .vmem => 39
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x512, .bf16⟩
  | .hbm, ⟨5, _⟩ => ⟨S16x2048x512, .bf16⟩
  | .hbm, ⟨6, _⟩ => ⟨S16x2048x512, .bf16⟩
  | .hbm, ⟨7, _⟩ => ⟨S16x2048x512, .f32⟩
  | .hbm, ⟨8, _⟩ => ⟨S16x2048x512, .f32⟩
  | .hbm, ⟨9, _⟩ => ⟨S16x2048x8192, .bf16⟩
  | .hbm, ⟨10, _⟩ => ⟨S16x2048x1024, .f32⟩
  | .hbm, ⟨11, _⟩ => ⟨S16x6x1024, .f32⟩
  | .hbm, ⟨12, _⟩ => ⟨S512, .f32⟩
  | .hbm, ⟨13, _⟩ => ⟨S8x64, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S3x512x1024, .f32⟩
  | .hbm, ⟨18, _⟩ => ⟨S1024x1024, .f32⟩
  | .hbm, ⟨19, _⟩ => ⟨S3x512x1024, .bf16⟩
  | .hbm, ⟨20, _⟩ => ⟨S1024x1024, .bf16⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S16x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .bf16⟩
  | .local _ .vmem, ⟨19, _⟩ => ⟨S1x512x512, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .f32⟩
  | .local _ .vmem, ⟨27, _⟩ => ⟨S1x512x1024, .f32⟩
  | .local _ .vmem, ⟨28, _⟩ => ⟨S1x6x1024, .f32⟩
  | .local _ .vmem, ⟨29, _⟩ => ⟨S1x6x1024, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S3x512x1024, .bf16⟩
  | .local _ .vmem, ⟨36, _⟩ => ⟨S1024x1024, .bf16⟩
  | .local _ .vmem, ⟨37, _⟩ => ⟨S1x512x1024, .f32⟩
  | .local _ .vmem, ⟨38, _⟩ => ⟨S1x512x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem18_0 : DmaSem sig := 33
abbrev cc0_sem19_0 : DmaSem sig := 34
abbrev cc0_sem20_0 : DmaSem sig := 35
abbrev cc0_sem21_0 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_12 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x6x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S3x512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x512x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== Reference4Ideal.lean ====
abbrev S16x2048x512 : Shape := ⟨3, ![16, 2048, 512]⟩
abbrev S16x2048x8192 : Shape := ⟨3, ![16, 2048, 8192]⟩
abbrev S16x2048x1024 : Shape := ⟨3, ![16, 2048, 1024]⟩
abbrev S16x6x1024 : Shape := ⟨3, ![16, 6, 1024]⟩
abbrev S512 : Shape := ⟨1, ![512]⟩
abbrev S8x64 : Shape := ⟨2, ![8, 64]⟩
abbrev S3x512x1024 : Shape := ⟨3, ![3, 512, 1024]⟩
abbrev S1024x1024 : Shape := ⟨2, ![1024, 1024]⟩
abbrev S_ : Shape := ⟨0, ![]⟩
abbrev S1x1x512 : Shape := ⟨3, ![1, 1, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x8x64 : Shape := ⟨4, ![1, 1, 8, 64]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S16x2048x3072 : Shape := ⟨3, ![16, 2048, 3072]⟩
abbrev S1x512x1024 : Shape := ⟨3, ![1, 512, 1024]⟩
abbrev S512x1024 : Shape := ⟨2, ![512, 1024]⟩
abbrev S16x1x1024 : Shape := ⟨3, ![16, 1, 1024]⟩

abbrev nBuf : Space → Nat
  | .hbm => 165
  | .vmem => 0
  | .smem => 0
  | _ => 0

abbrev hbmTy0_0 (i : Nat) : BufTy := match i % 128 with
  | 0 => ⟨S16x2048x512, .f32⟩
  | 1 => ⟨S16x2048x512, .bf16⟩
  | 2 => ⟨S16x2048x512, .bf16⟩
  | 3 => ⟨S16x2048x512, .bf16⟩
  | 4 => ⟨S16x2048x512, .bf16⟩
  | 5 => ⟨S16x2048x512, .bf16⟩
  | 6 => ⟨S16x2048x512, .bf16⟩
  | 7 => ⟨S16x2048x512, .f32⟩
  | 8 => ⟨S16x2048x512, .f32⟩
  | 9 => ⟨S16x2048x8192, .bf16⟩
  | 10 => ⟨S16x2048x1024, .f32⟩
  | 11 => ⟨S16x6x1024, .f32⟩
  | 12 => ⟨S512, .f32⟩
  | 13 => ⟨S8x64, .f32⟩
  | 14 => ⟨S512, .f32⟩
  | 15 => ⟨S512, .f32⟩
  | 16 => ⟨S512, .f32⟩
  | 17 => ⟨S3x512x1024, .f32⟩
  | 18 => ⟨S1024x1024, .f32⟩
  | 19 => ⟨S16x2048x512, .f32⟩
  | 20 => ⟨S16x2048x512, .f32⟩
  | 21 => ⟨S16x2048x512, .f32⟩
  | 22 => ⟨S16x2048x512, .f32⟩
  | 23 => ⟨S16x2048x512, .f32⟩
  | 24 => ⟨S_, .f32⟩
  | 25 => ⟨S16x2048x512, .f32⟩
  | 26 => ⟨S16x2048x512, .f32⟩
  | 27 => ⟨S1x1x512, .f32⟩
  | 28 => ⟨S16x2048x512, .f32⟩
  | 29 => ⟨S16x2048x512, .f32⟩
  | 30 => ⟨S_, .f32⟩
  | 31 => ⟨S16x2048x512, .f32⟩
  | 32 => ⟨S16x2048x512, .f32⟩
  | 33 => ⟨S16x2048x512, .f32⟩
  | 34 => ⟨S16x2048x512, .f32⟩
  | 35 => ⟨S_, .f32⟩
  | 36 => ⟨S16x2048x512, .f32⟩
  | 37 => ⟨S16x2048x512, .f32⟩
  | 38 => ⟨S1x1x512, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S16x2048x512, .f32⟩
  | 45 => ⟨S16x2048x8x64, .f32⟩
  | 46 => ⟨S_, .f32⟩
  | 47 => ⟨S16x2048x8, .f32⟩
  | 48 => ⟨S16x2048x8x1, .f32⟩
  | 49 => ⟨S_, .f32⟩
  | 50 => ⟨S16x2048x8x1, .f32⟩
  | 51 => ⟨S16x2048x8x1, .f32⟩
  | 52 => ⟨S16x2048x8x64, .f32⟩
  | 53 => ⟨S16x2048x8x64, .f32⟩
  | 54 => ⟨S16x2048x8x64, .f32⟩
  | 55 => ⟨S_, .f32⟩
  | 56 => ⟨S16x2048x8, .f32⟩
  | 57 => ⟨S16x2048x8x1, .f32⟩
  | 58 => ⟨S_, .f32⟩
  | 59 => ⟨S16x2048x8x1, .f32⟩
  | 60 => ⟨S16x2048x8x1, .f32⟩
  | 61 => ⟨S16x2048x8x64, .f32⟩
  | 62 => ⟨S16x2048x8x64, .f32⟩
  | 63 => ⟨S_, .f32⟩
  | 64 => ⟨S16x2048x8x1, .f32⟩
  | 65 => ⟨S16x2048x8x1, .f32⟩
  | 66 => ⟨S16x2048x8x1, .f32⟩
  | 67 => ⟨S16x2048x8x64, .f32⟩
  | 68 => ⟨S16x2048x8x64, .f32⟩
  | 69 => ⟨S16x2048x512, .f32⟩
  | 70 => ⟨S1x1x512, .f32⟩
  | 71 => ⟨S16x2048x512, .f32⟩
  | 72 => ⟨S16x2048x512, .f32⟩
  | 73 => ⟨S1x1x512, .f32⟩
  | 74 => ⟨S16x2048x512, .f32⟩
  | 75 => ⟨S16x2048x512, .f32⟩
  | 76 => ⟨S16x2048x8x64, .f32⟩
  | 77 => ⟨S16x2048x8x64, .f32⟩
  | 78 => ⟨S16x2048x8x64, .f32⟩
  | 79 => ⟨S1x1x8x64, .f32⟩
  | 80 => ⟨S16x2048x8x64, .f32⟩
  | 81 => ⟨S16x2048x8x64, .f32⟩
  | 82 => ⟨S_, .f32⟩
  | 83 => ⟨S16x2048x8, .f32⟩
  | 84 => ⟨S16x2048x8x1, .f32⟩
  | 85 => ⟨S_, .f32⟩
  | 86 => ⟨S16x2048x8x1, .f32⟩
  | 87 => ⟨S16x2048x8x1, .f32⟩
  | 88 => ⟨S16x2048x8x64, .f32⟩
  | 89 => ⟨S16x2048x8x64, .f32⟩
  | 90 => ⟨S16x2048x8x64, .f32⟩
  | 91 => ⟨S1x1x8x64, .f32⟩
  | 92 => ⟨S16x2048x8x64, .f32⟩
  | 93 => ⟨S16x2048x8x64, .f32⟩
  | 94 => ⟨S_, .f32⟩
  | 95 => ⟨S16x2048x8, .f32⟩
  | 96 => ⟨S16x2048x8x1, .f32⟩
  | 97 => ⟨S16x2048x8x1, .f32⟩
  | 98 => ⟨S16x2048x8x64, .f32⟩
  | 99 => ⟨S16x2048x8x64, .f32⟩
  | 100 => ⟨S16x2048x8x64, .f32⟩
  | 101 => ⟨S16x2048x512, .f32⟩
  | 102 => ⟨S16x2048x512, .f32⟩
  | 103 => ⟨S16x2048x512, .f32⟩
  | 104 => ⟨S16x2048x4x128, .f32⟩
  | 105 => ⟨S16x2048x4x128, .f32⟩
  | 106 => ⟨S_, .f32⟩
  | 107 => ⟨S16x2048x4, .f32⟩
  | 108 => ⟨S16x2048x4x1, .f32⟩
  | 109 => ⟨S_, .f32⟩
  | 110 => ⟨S16x2048x4x1, .f32⟩
  | 111 => ⟨S16x2048x4x1, .f32⟩
  | 112 => ⟨S_, .f32⟩
  | 113 => ⟨S16x2048x4x1, .f32⟩
  | 114 => ⟨S16x2048x4x1, .f32⟩
  | 115 => ⟨S16x2048x4x1, .f32⟩
  | 116 => ⟨S16x2048x4x128, .f32⟩
  | 117 => ⟨S16x2048x4x128, .f32⟩
  | 118 => ⟨S16x2048x512, .bf16⟩
  | 119 => ⟨S16x2048x512, .f32⟩
  | 120 => ⟨S16x2048x512, .f32⟩
  | 121 => ⟨S1x1x512, .f32⟩
  | 122 => ⟨S16x2048x512, .f32⟩
  | 123 => ⟨S16x2048x512, .f32⟩
  | 124 => ⟨S16x2048x512, .f32⟩
  | 125 => ⟨S16x2048x512, .f32⟩
  | 126 => ⟨S_, .f32⟩
  | 127 => ⟨S16x2048x512, .f32⟩
  | _ => ⟨S16x2048x512, .f32⟩

abbrev hbmTy0_1 (i : Nat) : BufTy := match i % 128 with
  | 0 => ⟨S16x2048x512, .f32⟩
  | 1 => ⟨S_, .f32⟩
  | 2 => ⟨S16x2048x512, .f32⟩
  | 3 => ⟨S16x2048x512, .f32⟩
  | 4 => ⟨S16x2048x512, .f32⟩
  | 5 => ⟨S16x2048x3072, .bf16⟩
  | 6 => ⟨S16x2048x3072, .f32⟩
  | 7 => ⟨S16x2048x3072, .f32⟩
  | 8 => ⟨S16x2048x3072, .f32⟩
  | 9 => ⟨S_, .f32⟩
  | 10 => ⟨S16x2048x3072, .f32⟩
  | 11 => ⟨S16x2048x3072, .f32⟩
  | 12 => ⟨S_, .f32⟩
  | 13 => ⟨S16x2048x3072, .f32⟩
  | 14 => ⟨S16x2048x3072, .f32⟩
  | 15 => ⟨S16x2048x1024, .f32⟩
  | 16 => ⟨S16x2048x1024, .f32⟩
  | 17 => ⟨S16x2048x1024, .f32⟩
  | 18 => ⟨S1x512x1024, .f32⟩
  | 19 => ⟨S512x1024, .f32⟩
  | 20 => ⟨S16x2048x1024, .f32⟩
  | 21 => ⟨S16x2048x1024, .f32⟩
  | 22 => ⟨S1x512x1024, .f32⟩
  | 23 => ⟨S512x1024, .f32⟩
  | 24 => ⟨S16x2048x1024, .f32⟩
  | 25 => ⟨S16x2048x1024, .f32⟩
  | 26 => ⟨S16x2048x1024, .f32⟩
  | 27 => ⟨S1x512x1024, .f32⟩
  | 28 => ⟨S512x1024, .f32⟩
  | 29 => ⟨S16x2048x1024, .f32⟩
  | 30 => ⟨S16x2048x1024, .f32⟩
  | 31 => ⟨S16x2048x1024, .f32⟩
  | 32 => ⟨S16x1x1024, .f32⟩
  | 33 => ⟨S16x2048x1024, .f32⟩
  | 34 => ⟨S16x2048x1024, .f32⟩
  | 35 => ⟨S16x2048x1024, .f32⟩
  | 36 => ⟨S16x2048x1024, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_14 : Ref sig .tc := ⟨.hbm, 126, rfl⟩
abbrev main_v92 : Ref sig .tc := ⟨.hbm, 127, rfl⟩
abbrev main_v93 : Ref sig .tc := ⟨.hbm, 128, rfl⟩
abbrev main_cst_15 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_16 : Ref sig .tc := ⟨.hbm, 137, rfl⟩
abbrev main_v101 : Ref sig .tc := ⟨.hbm, 138, rfl⟩
abbrev main_v102 : Ref sig .tc := ⟨.hbm, 139, rfl⟩
abbrev main_cst_17 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩

abbrev nD : Nat := 1
abbrev τ : Topo := Topo.v7x

variable {F : FTy → Type} [FloatOps F]
-- ==== Kernel5.lean ====
abbrev S16x2048x8192 : Shape := ⟨3, ![16, 2048, 8192]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S16x2048x512 : Shape := ⟨3, ![16, 2048, 512]⟩
abbrev S1x512x1536 : Shape := ⟨3, ![1, 512, 1536]⟩
abbrev S1x512x512 : Shape := ⟨3, ![1, 512, 512]⟩
abbrev S512x1536 : Shape := ⟨2, ![512, 1536]⟩
abbrev S512x512 : Shape := ⟨2, ![512, 512]⟩
abbrev S512x128 : Shape := ⟨2, ![512, 128]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S16x2048x8192, .bf16⟩
  | .hbm, ⟨1, _⟩ => ⟨S64, .f32⟩
  | .hbm, ⟨2, _⟩ => ⟨S64, .f32⟩
  | .hbm, ⟨3, _⟩ => ⟨S1x64, .f32⟩
  | .hbm, ⟨4, _⟩ => ⟨S8x64, .f32⟩
  | .hbm, ⟨5, _⟩ => ⟨S512, .f32⟩
  | .hbm, ⟨6, _⟩ => ⟨S1x512, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S1x512, .f32⟩
  | .hbm, ⟨11, _⟩ => ⟨S16x2048x512, .bf16⟩
  | .hbm, ⟨12, _⟩ => ⟨S16x2048x512, .bf16⟩
  | .hbm, ⟨13, _⟩ => ⟨S16x2048x512, .bf16⟩
  | .local _ .vmem, ⟨0, _⟩ => ⟨S1x512x1536, .bf16⟩
  | .local _ .vmem, ⟨1, _⟩ => ⟨S1x512x1536, .bf16⟩
  | .local _ .vmem, ⟨2, _⟩ => ⟨S1x512, .f32⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | _, _ => ⟨S16x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x2048x8192 : Shape := ⟨3, ![16, 2048, 8192]⟩
abbrev S64 : Shape := ⟨1, ![64]⟩
abbrev S16x2048x1536 : Shape := ⟨3, ![16, 2048, 1536]⟩
abbrev S16x2048x512 : Shape := ⟨3, ![16, 2048, 512]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x8192, .bf16⟩
  | .hbm, ⟨1, _⟩ => ⟨S64, .f32⟩
  | .hbm, ⟨2, _⟩ => ⟨S64, .f32⟩
  | .hbm, ⟨3, _⟩ => ⟨S16x2048x1536, .bf16⟩
  | .hbm, ⟨4, _⟩ => ⟨S16x2048x1536, .f32⟩
  | .hbm, ⟨5, _⟩ => ⟨S16x2048x512, .f32⟩
  | .hbm, ⟨6, _⟩ => ⟨S16x2048x512, .f32⟩
  | .hbm, ⟨7, _⟩ => ⟨S16x2048x512, .f32⟩
  | .hbm, ⟨8, _⟩ => ⟨S16x2048x8x64, .f32⟩
  | .hbm, ⟨9, _⟩ => ⟨S16x2048x8x64, .f32⟩
  | .hbm, ⟨10, _⟩ => ⟨S_, .f32⟩
  | .hbm, ⟨11, _⟩ => ⟨S16x2048x8, .f32⟩
  | .hbm, ⟨12, _⟩ => ⟨S16x2048x8x1, .f32⟩
  | .hbm, ⟨13, _⟩ => ⟨S_, .f32⟩
  | .hbm, ⟨14, _⟩ => ⟨S16x2048x8x1, .f32⟩
  | .hbm, ⟨15, _⟩ => ⟨S16x2048x8x1, .f32⟩
  | .hbm, ⟨16, _⟩ => ⟨S_, .f32⟩
  | .hbm, ⟨17, _⟩ => ⟨S16x2048x8x1, .f32⟩
  | .hbm, ⟨18, _⟩ => ⟨S16x2048x8x1, .f32⟩
  | .hbm, ⟨19, _⟩ => ⟨S16x2048x8x1, .f32⟩
  | .hbm, ⟨20, _⟩ => ⟨S16x2048x8x64, .f32⟩
  | .hbm, ⟨21, _⟩ => ⟨S16x2048x8x64, .f32⟩
  | .hbm, ⟨22, _⟩ => ⟨S1x1x1x64, .f32⟩
  | .hbm, ⟨23, _⟩ => ⟨S16x2048x8x64, .f32⟩
  | .hbm, ⟨24, _⟩ => ⟨S16x2048x8x64, .f32⟩
  | .hbm, ⟨25, _⟩ => ⟨S_, .f32⟩
  | .hbm, ⟨26, _⟩ => ⟨S16x2048x8x64, .f32⟩
  | .hbm, ⟨27, _⟩ => ⟨S16x2048x8x64, .f32⟩
  | .hbm, ⟨28, _⟩ => ⟨S16x2048x8x64, .f32⟩
  | .hbm, ⟨29, _⟩ => ⟨S16x2048x8x64, .f32⟩
  | .hbm, ⟨30, _⟩ => ⟨S_, .f32⟩
  | .hbm, ⟨31, _⟩ => ⟨S16x2048x8, .f32⟩
  | .hbm, ⟨32, _⟩ => ⟨S16x2048x8x1, .f32⟩
  | .hbm, ⟨33, _⟩ => ⟨S_, .f32⟩
  | .hbm, ⟨34, _⟩ => ⟨S16x2048x8x1, .f32⟩
  | .hbm, ⟨35, _⟩ => ⟨S16x2048x8x1, .f32⟩
  | .hbm, ⟨36, _⟩ => ⟨S_, .f32⟩
  | .hbm, ⟨37, _⟩ => ⟨S16x2048x8x1, .f32⟩
  | .hbm, ⟨38, _⟩ => ⟨S16x2048x8x1, .f32⟩
  | .hbm, ⟨39, _⟩ => ⟨S16x2048x8x1, .f32⟩
  | .hbm, ⟨40, _⟩ => ⟨S16x2048x8x64, .f32⟩
  | .hbm, ⟨41, _⟩ => ⟨S16x2048x8x64, .f32⟩
  | .hbm, ⟨42, _⟩ => ⟨S1x1x1x64, .f32⟩
  | .hbm, ⟨43, _⟩ => ⟨S16x2048x8x64, .f32⟩
  | .hbm, ⟨44, _⟩ => ⟨S16x2048x8x64, .f32⟩
  | .hbm, ⟨45, _⟩ => ⟨S16x2048x512, .f32⟩
  | .hbm, ⟨46, _⟩ => ⟨S16x2048x512, .bf16⟩
  | .hbm, ⟨47, _⟩ => ⟨S16x2048x512, .f32⟩
  | .hbm, ⟨48, _⟩ => ⟨S16x2048x512, .bf16⟩
  | .hbm, ⟨49, _⟩ => ⟨S16x2048x512, .bf16⟩
  | _, _ => ⟨S16x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel6.lean ====
abbrev S16x1024 : Shape := ⟨2, ![16, 1024]⟩
abbrev S1024 : Shape := ⟨1, ![1024]⟩
abbrev S1024x6144 : Shape := ⟨2, ![1024, 6144]⟩
abbrev S_ : Shape := ⟨0, ![]⟩
abbrev S1x1024 : Shape := ⟨2, ![1, 1024]⟩
abbrev S17x1024 : Shape := ⟨2, ![17, 1024]⟩
abbrev S24x1024 : Shape := ⟨2, ![24, 1024]⟩
abbrev S24x6144 : Shape := ⟨2, ![24, 6144]⟩
abbrev S8x1024 : Shape := ⟨2, ![8, 1024]⟩
abbrev S1024x1024 : Shape := ⟨2, ![1024, 1024]⟩

abbrev nBuf : Space → Nat
  | .hbm => 27
  | .vmem => 6
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S17x1024, .f32⟩
  | .hbm, ⟨23, _⟩ => ⟨S_, .i32⟩
  | .hbm, ⟨24, _⟩ => ⟨S_, .f32⟩
  | .hbm, ⟨25, _⟩ => ⟨S24x1024, .f32⟩
  | .hbm, ⟨26, _⟩ => ⟨S24x6144, .f32⟩
  | .local _ .vmem, ⟨0, _⟩ => ⟨S8x1024, .f32⟩
  | .local _ .vmem, ⟨1, _⟩ => ⟨S8x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_cst : Ref sig .tc := ⟨.hbm, 14, rfl⟩
abbrev main_call1_v2 : Ref sig .tc := ⟨.hbm, 15, rfl⟩
abbrev main_call1_v3 : Ref sig .tc := ⟨.hbm, 16, rfl⟩
abbrev main_call1_cst_0 : Ref sig .tc := ⟨.hbm, 17, rfl⟩
abbrev main_call1_v4 : Ref sig .tc := ⟨.hbm, 18, rfl⟩
abbrev main_call1_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call2_v0 : Ref sig .tc := ⟨.hbm, 24, rfl⟩
abbrev main_v4 : Ref sig .tc := ⟨.hbm, 25, rfl⟩
abbrev main_v5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 6, 1], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16x1024 : Shape := ⟨2, ![16, 1024]⟩
abbrev S1024 : Shape := ⟨1, ![1024]⟩
abbrev S1024x6144 : Shape := ⟨2, ![1024, 6144]⟩
abbrev S_ : Shape := ⟨0, ![]⟩
abbrev S1x1024 : Shape := ⟨2, ![1, 1024]⟩
abbrev S17x1024 : Shape := ⟨2, ![17, 1024]⟩
abbrev S24x1024 : Shape := ⟨2, ![24, 1024]⟩
abbrev S24x6144 : Shape := ⟨2, ![24, 6144]⟩

abbrev nBuf : Space → Nat
  | .hbm => 27
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1024x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1x1024, .f32⟩
  | .hbm, ⟨22, _⟩ => ⟨S17x1024, .f32⟩
  | .hbm, ⟨23, _⟩ => ⟨S_, .i32⟩
  | .hbm, ⟨24, _⟩ => ⟨S_, .f32⟩
  | .hbm, ⟨25, _⟩ => ⟨S24x1024, .f32⟩
  | .hbm, ⟨26, _⟩ => ⟨S24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_cst : Ref sig .tc := ⟨.hbm, 14, rfl⟩
abbrev main_call1_v2 : Ref sig .tc := ⟨.hbm, 15, rfl⟩
abbrev main_call1_v3 : Ref sig .tc := ⟨.hbm, 16, rfl⟩
abbrev main_call1_cst_0 : Ref sig .tc := ⟨.hbm, 17, rfl⟩
abbrev main_call1_v4 : Ref sig .tc := ⟨.hbm, 18, rfl⟩
abbrev main_call1_v5 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call2_v0 : Ref sig .tc := ⟨.hbm, 24, rfl⟩
abbrev main_v4 : Ref sig .tc := ⟨.hbm, 25, rfl⟩
abbrev main_v5 : Ref sig .tc := ⟨.hbm, 26, rfl⟩

abbrev nD : Nat := 1
abbrev τ : Topo := Topo.v7x

variable {F : FTy → Type} [FloatOps F]
-- ==== Proof.Moe.Step.lean ====
module

public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

/-- The gated linear unit's activation `silu u · v`. -/
def glu (u v : EReal) : EReal := u * Ideal.logistic u * v

/-- A gate column: the gates times the selection column, plus the (empty) rest of the gates' rounding
    times the selection column. -/
def pick (g s : Fin 128 → EReal) : EReal :=
  (∑ k : Fin 128, g k * s k) + ∑ k : Fin 128, (g k - g k) * s k

/-- The eight experts' gated activation: chunk `e` of 128 lanes is scaled by gate `e`. -/
def gated (act : FVec Ideal S1024x1024 .f32) (g8 : FVec Ideal S1024x128 .f32) (r : Fin 1024) (k : Fin 1024) : EReal :=
  act (ix2 r k) * g8 (ix2 r ⟨k.val / 128, by omega⟩)

theorem pay4_at (h : FVec Ideal S1x1024x1024 .bf16) (sg su : FVec Ideal S1024x256 .bf16) (sd : FVec Ideal S256x1024 .bf16)
    (z : Fin 1) (r l : Fin 1024) :
    k0_pay4 (F := Ideal) h sg su sd (ix3 z r l)
      = ∑ k : Fin 256, glu (∑ q : Fin 1024, h (ix3 0 r q) * sg (ix2 q k)) (∑ q : Fin 1024, h (ix3 0 r q) * su (ix2 q k))
          * sd (ix2 k l) := by
  pointwise [k0_pay4, k0_pay3, glu]

theorem pay2_at (x : FVec Ideal S1x1024x1024 .f32) (md : FVec Ideal S1x1x1024 .f32) (a : FVec Ideal S1x1024x1024 .f32)
    (z : Fin 1) (r l : Fin 1024) :
    k0_pay2 (F := Ideal) x md a (ix3 z r l) = x (ix3 0 r l) + md (ix3 0 0 l) * a (ix3 0 r l) := by
  pointwise [k0_pay2]

theorem pay5_at (g : FVec Ideal S1x1024x128 .f32) (s : FVec Ideal S1x128x128 .bf16) (r : Fin 1024) (e : Fin 128) :
    k0_pay5 (F := Ideal) g s (ix2 r e) = pick (fun k => g (ix3 0 r k)) (fun k => s (ix3 0 k e)) := by
  pointwise [k0_pay5, pick]

theorem pay6_at (h : FVec Ideal S1x1024x1024 .bf16) (wg wu : FVec Ideal S1024x1024 .bf16) (r k : Fin 1024) :
    k0_pay6 (F := Ideal) h wg wu (ix2 r k)
      = glu (∑ q : Fin 1024, h (ix3 0 r q) * wg (ix2 q k)) (∑ q : Fin 1024, h (ix3 0 r q) * wu (ix2 q k)) := by
  pointwise [k0_pay6, k0_pay3, glu]

theorem mul_at (A : FVec Ideal S1024x1024 .f32) (B : FVec Ideal S1024x128 .f32) {r i i' : Fin 1024} {e e' : Fin 128}
    (h : i = i') (h' : e = e') : (A (ix2 r i) * B (ix2 r e) : EReal) = A (ix2 r i') * B (ix2 r e') := by
  subst h; subst h'; rfl

set_option maxHeartbeats 1600000 in
theorem pay1_at (h : FVec Ideal S1x1024x1024 .bf16) (g : FVec Ideal S1x1024x128 .f32) (s : FVec Ideal S1x128x128 .bf16)
    (wg wu wd : FVec Ideal S1024x1024 .bf16) (a : FVec Ideal S1x1024x1024 .f32)
    (z : Fin 1) (r l : Fin 1024) :
    k0_pay1 (F := Ideal) (k0_pay5 g s) (k0_pay6 h wg wu) (k0_pay7 h g s wg wu) (k0_pay8 h g s wg wu) (k0_pay9 h wg wu) a wd (ix3 z r l)
      = a (ix3 0 r l) + ∑ k : Fin 1024, gated (k0_pay6 h wg wu) (k0_pay5 g s) r k * wd (ix2 k l) := by
  pointwise [k0_pay1, k0_pay7, k0_pay8, k0_pay9, gated]
  refine congrArg _ (Finset.sum_congr rfl fun x _ => congrArg (· * _) ?_)
  split_ifs <;> exact mul_at _ _ (Fin.ext (by simp only [] <;> omega)) (Fin.ext (by simp <;> omega))

end Cert.Kernel2Ideal.Moe
-- ==== Proof.Moe.Rows.lean ====
module

public import proofs.«01_k».proof.Proof.Moe.Step
public import Idealize.ShloMosaic.Lib.Pipeline.ValueKit
public import Idealize.ShloMosaic.Lib.WritesUnit

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

/-- The first expert group's points: the shared expert starts the accumulation. -/
abbrev first (i : grid0.Coords) : Prop := k0_cond1 i = 1#1

/-- The last expert group's points: the residual closes it. -/
abbrev last (i : grid0.Coords) : Prop := k0_cond2 i = 1#1

/-- Row `r` of token tile `o`, as a row of the whole sample. -/
def row (o : Fin 2) (r : Fin 1024) : Fin 2048 := ⟨1024 * o.val + r.val, by omega⟩

/-- Token tile `o` of a sample's rows. -/
def rowsOf (o : Fin 2) (d : FVec Ideal S1x2048x1024 .f32) : FVec Ideal S1x1024x1024 .f32 :=
  fun z => d (ix3 0 (row o (z 1)) (z 2))

/-- Row 5 of the modulation. -/
def rowFive (x : FVec Ideal S1x6x1024 .f32) : FVec Ideal S1x1x1024 .f32 := fun z => x (ix3 0 5 (z 2))

/-- The body's sum after one group of experts. -/
def stepPay (h : FVec Ideal S1x1024x1024 .bf16) (g : FVec Ideal S1x1024x128 .f32) (s : FVec Ideal S1x128x128 .bf16)
    (wg wu wd : FVec Ideal S1024x1024 .bf16) (a : FVec Ideal S1x1024x1024 .f32) : FVec Ideal S1x1024x1024 .f32 :=
  k0_pay1 (F := Ideal) (k0_pay5 g s) (k0_pay6 h wg wu) (k0_pay7 h g s wg wu) (k0_pay8 h g s wg wu) (k0_pay9 h wg wu) a wd

/-- What a point leaves in the sample's block: `P` on token tile `o`, what was there elsewhere. -/
def Left (o : Fin 2) (P : FVec Ideal S1x1024x1024 .f32) (d X : FVec Ideal S1x2048x1024 .f32) : Prop :=
  (∀ r l : Fin 1024, X (ix3 0 (row o r) l) = P (ix3 0 r l))
    ∧ ∀ (a : Fin 2048) (l : Fin 1024), (a.val < 1024 * o.val ∨ 1024 * o.val + 1024 ≤ a.val) → X (ix3 0 a l) = d (ix3 0 a l)

section views

variable {sig : RefSig} {κ : Kind} {sp : Space} (v : View sig κ sp S1x2048x1024 .f32) (f : v.ty.Contents (Elt Ideal))

theorem readAt_tile (o : Fin 2) {off : Fin 3 → ℕ} (h : off = ![0, 1024 * o.val, 0])
    (inb : ∀ a, off a + S1x1024x1024.size a ≤ S1x2048x1024.size a) :
    v.readAt (Elt Ideal) (Rect.unit (s := S1x2048x1024) off S1x1024x1024.size inb).toLoadRect f
      = rowsOf o (v.read (Elt Ideal) f) := by
  subst h
  funext z
  refine congrArg (v.read (Elt Ideal) f) (funext fun a => Fin.ext ?_)
  match a with
  | 0 => exact (by have : (z 0).val < 1 := (z 0).isLt
                   show 0 + 1 * (z 0).val = 0; omega)
  | 1 => exact (by show 1024 * o.val + 1 * (z 1).val = 1024 * o.val + (z 1).val; omega)
  | 2 => exact (by show 0 + 1 * (z 2).val = (z 2).val; omega)

/-- A load of the token tile the newest store wrote reads the stored tile. -/
theorem readAt_tile_writes (o : Fin 2) {off off' : Fin 3 → ℕ} (h : off = ![0, 1024 * o.val, 0])
    (h' : off' = ![0, 1024 * o.val, 0])
    (inb : ∀ a, off a + S1x1024x1024.size a ≤ S1x2048x1024.size a)
    (inb' : ∀ a, off' a + S1x1024x1024.size a ≤ S1x2048x1024.size a)
    (w : FVec Ideal S1x1024x1024 .f32) (L : List (View.Piece (Elt Ideal) S1x2048x1024 .f32)) :
    v.readAt (Elt Ideal) (Rect.unit (s := S1x2048x1024) off S1x1024x1024.size inb).toLoadRect
        (v.writes (Elt Ideal) f (⟨Rect.unit (s := S1x2048x1024) off' S1x1024x1024.size inb', w⟩ :: L)) = w := by
  subst h; subst h'
  funext z
  exact View.read_writes_cons_unit_of_mem v f inb w L _ z rfl fun a =>
    congrArg ((![0, 1024 * o.val, 0] : Fin 3 → ℕ) a + ·) (Nat.one_mul (z a).val)

theorem read_writes_off (o : Fin 2) {off : Fin 3 → ℕ} (h : off = ![0, 1024 * o.val, 0])
    (inb : ∀ a, off a + S1x1024x1024.size a ≤ S1x2048x1024.size a)
    (w : FVec Ideal S1x1024x1024 .f32) (L : List (View.Piece (Elt Ideal) S1x2048x1024 .f32)) (a : Fin 2048) (l : Fin 1024)
    (ha : a.val < 1024 * o.val ∨ 1024 * o.val + 1024 ≤ a.val) :
    v.read (Elt Ideal) (v.writes (Elt Ideal) f (⟨Rect.unit (s := S1x2048x1024) off S1x1024x1024.size inb, w⟩ :: L)) (ix3 0 a l)
      = v.read (Elt Ideal) (v.writes (Elt Ideal) f L) (ix3 0 a l) := by
  subst h
  exact View.read_writes_cons_unit_of_not_mem v f inb w L _ rfl 1 ha

theorem left_of_writes (o : Fin 2) {off : Fin 3 → ℕ} (h : off = ![0, 1024 * o.val, 0])
    (inb : ∀ a, off a + S1x1024x1024.size a ≤ S1x2048x1024.size a)
    (w P : FVec Ideal S1x1024x1024 .f32) (L : List (View.Piece (Elt Ideal) S1x2048x1024 .f32)) (d : FVec Ideal S1x2048x1024 .f32)
    (hd : ∀ (a : Fin 2048) (l : Fin 1024), (a.val < 1024 * o.val ∨ 1024 * o.val + 1024 ≤ a.val) →
      v.read (Elt Ideal) (v.writes (Elt Ideal) f L) (ix3 0 a l) = d (ix3 0 a l)) (hw : w = P) :
    Left o P d (v.read (Elt Ideal) (v.writes (Elt Ideal) f
      (⟨Rect.unit (s := S1x2048x1024) off S1x1024x1024.size inb, w⟩ :: L))) := by
  subst h; subst hw
  refine ⟨fun r l => ?_, fun a l ha => ?_⟩
  · refine View.read_writes_cons_unit_of_mem v f inb w L _ (ix3 0 r l) rfl fun a => ?_
    match a with
    | 0 => rfl
    | 1 => rfl
    | 2 => exact (Nat.zero_add _).symm
  · exact (read_writes_off v f o rfl inb w L a l ha).trans (hd a l ha)

end views

theorem readAt_whole {sig : RefSig} {κ : Kind} {sp : Space} {s : Shape} {e : EltTy} {mr : Memref sig κ sp s e}
    (h : mr.IsWhole) (x : s.Idx → Elt Ideal e) {off : Fin s.rank → ℕ} (inb : ∀ a, off a + s.size a ≤ s.size a) :
    mr.view.readAt (Elt Ideal) (Rect.unit off (no_index s.size) inb).toLoadRect (h.unread x) = x :=
  funext fun y => (congrFun (h.read_unread (Val := Elt Ideal) x) _).trans (congrArg x (funext fun a => Fin.ext (by
    show off a + 1 * (y a).val = (y a).val
    have := inb a; omega)))

theorem readAt_five {sig : RefSig} {κ : Kind} {sp : Space} {mr : Memref sig κ sp S1x6x1024 .f32} (h : mr.IsWhole)
    (x : FVec Ideal S1x6x1024 .f32) (inb : ∀ a, (![0, 5, 0] : Fin 3 → ℕ) a + S1x1x1024.size a ≤ S1x6x1024.size a) :
    mr.view.readAt (Elt Ideal) (Rect.unit (s := S1x6x1024) ![0, 5, 0] S1x1x1024.size inb).toLoadRect (h.unread x) = rowFive x := by
  funext z
  refine (congrFun (h.read_unread (Val := Elt Ideal) x) _).trans (congrArg x (funext fun a => Fin.ext ?_))
  match a with
  | 0 => exact (by have : (z 0).val < 1 := (z 0).isLt
                   show 0 + 1 * (z 0).val = 0; omega)
  | 1 => exact (by have : (z 1).val < 1 := (z 1).isLt
                   show 5 + 1 * (z 1).val = 5; omega)
  | 2 => exact (by show 0 + 1 * (z 2).val = (z 2).val; omega)

end Cert.Kernel2Ideal.Moe
-- ==== Proof.Moe.Math.lean ====
module

public import proofs.«01_k».proof.Proof.Moe.Rows

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

/-- The arrays the kernel's windows read. -/
structure Arr where
  h : FVec Ideal S16x2048x1024 .bf16
  g : FVec Ideal S16x2048x128 .f32
  x : FVec Ideal S16x2048x1024 .f32
  md : FVec Ideal S16x6x1024 .f32
  sel : FVec Ideal S8x128x128 .bf16
  wg : FVec Ideal S1024x8192 .bf16
  wu : FVec Ideal S1024x8192 .bf16
  wd : FVec Ideal S8192x1024 .bf16
  sg : FVec Ideal S1024x256 .bf16
  su : FVec Ideal S1024x256 .bf16
  sd : FVec Ideal S256x1024 .bf16

/-- Lane `k` of expert group `j` among the 8192 lanes. -/
def lane (j : Fin 8) (k : Fin 1024) : Fin 8192 := ⟨j.val * 1024 + k.val, by omega⟩

/-- The shared expert's output. -/
def shared (A : Arr) (b : Fin 16) (a : Fin 2048) (l : Fin 1024) : EReal :=
  ∑ k : Fin 256, glu (∑ q : Fin 1024, A.h (ix3 b a q) * A.sg (ix2 q k)) (∑ q : Fin 1024, A.h (ix3 b a q) * A.su (ix2 q k))
    * A.sd (ix2 k l)

/-- Expert group `j`'s gated output. -/
def term (A : Arr) (j : Fin 8) (b : Fin 16) (a : Fin 2048) (l : Fin 1024) : EReal :=
  ∑ k : Fin 1024, glu (∑ q : Fin 1024, A.h (ix3 b a q) * A.wg (ix2 q (lane j k)))
      (∑ q : Fin 1024, A.h (ix3 b a q) * A.wu (ix2 q (lane j k)))
    * pick (fun q => A.g (ix3 b a q)) (fun q => A.sel (ix3 j q ⟨k.val / 128, by omega⟩)) * A.wd (ix2 (lane j k) l)

/-- The sum after expert group `n`. -/
def acc (A : Arr) (b : Fin 16) (a : Fin 2048) (l : Fin 1024) : ℕ → EReal
  | 0 => shared A b a l + term A 0 b a l
  | n + 1 => acc A b a l n + term A ⟨(n + 1) % 8, Nat.mod_lt _ (by omega)⟩ b a l

/-- The layer's result. -/
def out (A : Arr) (b : Fin 16) (a : Fin 2048) (l : Fin 1024) : EReal :=
  A.x (ix3 b a l) + A.md (ix3 b 5 l) * acc A b a l 7

/-- What the block holds after expert group `n`: the sum, after the last the result. -/
def val (A : Arr) (n : ℕ) (b : Fin 16) (a : Fin 2048) (l : Fin 1024) : EReal :=
  if n = 7 then out A b a l else acc A b a l n

/-- The blocks of a grid point are the arrays' at sample `b`, expert group `j`, token tile `o`. -/
structure Blocks (A : Arr) (b : Fin 16) (j : Fin 8) (o : Fin 2)
    (x0 : FVec Ideal S1x1024x1024 .bf16) (x1 : FVec Ideal S1x1024x128 .f32) (x2 : FVec Ideal S1x1024x1024 .f32)
    (x3 : FVec Ideal S1x6x1024 .f32) (x4 : FVec Ideal S1x128x128 .bf16) (x5 x6 x7 : FVec Ideal S1024x1024 .bf16)
    (x8 x9 : FVec Ideal S1024x256 .bf16) (x10 : FVec Ideal S256x1024 .bf16) : Prop where
  h0 : ∀ r q : Fin 1024, x0 (ix3 0 r q) = A.h (ix3 b (row o r) q)
  h1 : ∀ (r : Fin 1024) (q : Fin 128), x1 (ix3 0 r q) = A.g (ix3 b (row o r) q)
  h2 : j.val = 7 → ∀ r q : Fin 1024, x2 (ix3 0 r q) = A.x (ix3 b (row o r) q)
  h3 : ∀ (s : Fin 6) (q : Fin 1024), x3 (ix3 0 s q) = A.md (ix3 b s q)
  h4 : ∀ q e : Fin 128, x4 (ix3 0 q e) = A.sel (ix3 j q e)
  h5 : ∀ q k : Fin 1024, x5 (ix2 q k) = A.wg (ix2 q (lane j k))
  h6 : ∀ q k : Fin 1024, x6 (ix2 q k) = A.wu (ix2 q (lane j k))
  h7 : ∀ k l : Fin 1024, x7 (ix2 k l) = A.wd (ix2 (lane j k) l)
  h8 : ∀ (q : Fin 1024) (k : Fin 256), x8 (ix2 q k) = A.sg (ix2 q k)
  h9 : ∀ (q : Fin 1024) (k : Fin 256), x9 (ix2 q k) = A.su (ix2 q k)
  h10 : ∀ (k : Fin 256) (l : Fin 1024), x10 (ix2 k l) = A.sd (ix2 k l)

section blocks

variable {A : Arr} {b : Fin 16} {j : Fin 8} {o : Fin 2}
    {x0 : FVec Ideal S1x1024x1024 .bf16} {x1 : FVec Ideal S1x1024x128 .f32} {x2 : FVec Ideal S1x1024x1024 .f32}
    {x3 : FVec Ideal S1x6x1024 .f32} {x4 : FVec Ideal S1x128x128 .bf16} {x5 x6 x7 : FVec Ideal S1024x1024 .bf16}
    {x8 x9 : FVec Ideal S1024x256 .bf16} {x10 : FVec Ideal S256x1024 .bf16}

theorem step_at (B : Blocks A b j o x0 x1 x2 x3 x4 x5 x6 x7 x8 x9 x10) (a : FVec Ideal S1x1024x1024 .f32) (r l : Fin 1024) :
    stepPay x0 x1 x4 x5 x6 x7 a (ix3 0 r l) = a (ix3 0 r l) + term A j b (row o r) l := by
  unfold stepPay term
  rw [pay1_at]
  refine congrArg _ (Finset.sum_congr rfl fun k _ => ?_)
  unfold gated
  rw [pay6_at, pay5_at]
  simp only [B.h0, B.h1, B.h4, B.h5, B.h6, B.h7]

theorem shared_at (B : Blocks A b j o x0 x1 x2 x3 x4 x5 x6 x7 x8 x9 x10) (r l : Fin 1024) :
    k0_pay4 (F := Ideal) x0 x8 x9 x10 (ix3 0 r l) = shared A b (row o r) l := by
  unfold shared
  rw [pay4_at]
  simp only [B.h0, B.h8, B.h9, B.h10]

theorem out_at (B : Blocks A b j o x0 x1 x2 x3 x4 x5 x6 x7 x8 x9 x10) (hj : j.val = 7) (a : FVec Ideal S1x1024x1024 .f32) (r l : Fin 1024) :
    k0_pay2 (F := Ideal) x2 (rowFive x3) a (ix3 0 r l) = A.x (ix3 b (row o r) l) + A.md (ix3 b 5 l) * a (ix3 0 r l) := by
  rw [pay2_at, B.h2 hj]
  exact congrArg (fun z : EReal => A.x (ix3 b (row o r) l) + z * a (ix3 0 r l)) (B.h3 5 l)

end blocks

/-- What the block holds after grid point `t`: the sums of this expert group in the token tiles already reached,
    the previous group's in the others. -/
def Ok (A : Arr) (t : ℕ) (X : FVec Ideal S1x2048x1024 .f32) : Prop :=
  ∀ (a : Fin 2048) (l : Fin 1024),
    (a.val < 1024 * (t % 2 + 1) → X (ix3 0 a l) = val A (t / 2 % 8) ⟨t / 16 % 16, Nat.mod_lt _ (by omega)⟩ a l)
    ∧ (1024 * (t % 2 + 1) ≤ a.val → 0 < t / 2 % 8 →
        X (ix3 0 a l) = val A (t / 2 % 8 - 1) ⟨t / 16 % 16, Nat.mod_lt _ (by omega)⟩ a l)

/-- Before a point the tile it writes holds the previous group's sums. -/
theorem ok_old {A : Arr} {t : ℕ} {Y : FVec Ideal S1x2048x1024 .f32} (h : t % 16 ≠ 0 → Ok A (t - 1) Y) (hj : 0 < t / 2 % 8)
    (b : Fin 16) (hb : b.val = t / 16 % 16) (o : Fin 2) (ho : o.val = t % 2) (r l : Fin 1024) :
    Y (ix3 0 (row o r) l) = acc A b (row o r) l (t / 2 % 8 - 1) := by
  have hY := h (by omega) (row o r) l
  have hr : (row o r).val = 1024 * o.val + r.val := rfl
  have e : (⟨(t - 1) / 16 % 16, Nat.mod_lt _ (by omega)⟩ : Fin 16) = b := Fin.ext (by simp only []; omega)
  rw [e] at hY
  have hv : val A (t / 2 % 8 - 1) b (row o r) l = acc A b (row o r) l (t / 2 % 8 - 1) := if_neg (by omega)
  rcases Nat.mod_two_eq_zero_or_one t with h0 | h0
  · have e1 : (t - 1) / 2 % 8 = t / 2 % 8 - 1 := by omega
    rw [e1] at hY
    exact (hY.1 (by omega)).trans hv
  · have e1 : (t - 1) / 2 % 8 = t / 2 % 8 := by omega
    rw [e1] at hY
    exact (hY.2 (by omega) hj).trans hv

/-- One point's step: a tile written with this group's value keeps the invariant. -/
theorem ok_step {A : Arr} {t : ℕ} {X Y : FVec Ideal S1x2048x1024 .f32} {P : FVec Ideal S1x1024x1024 .f32}
    (h : t % 16 ≠ 0 → Ok A (t - 1) Y) (b : Fin 16) (hb : b.val = t / 16 % 16) (o : Fin 2) (ho : o.val = t % 2)
    (hX : Left o P Y X) (hP : ∀ r l : Fin 1024, P (ix3 0 r l) = val A (t / 2 % 8) b (row o r) l) : Ok A t X := by
  intro a l
  have eb : (⟨t / 16 % 16, Nat.mod_lt _ (by omega)⟩ : Fin 16) = b := Fin.ext hb.symm
  rw [eb]
  have eb' : (⟨(t - 1) / 16 % 16, Nat.mod_lt _ (by omega)⟩ : Fin 16) = b ∨ t % 16 = 0 := by
    by_cases h16 : t % 16 = 0
    · exact .inr h16
    · exact .inl (Fin.ext (by simp only []; omega))
  constructor
  · intro ha
    by_cases hin : 1024 * o.val ≤ a.val
    · have er : a = row o ⟨a.val - 1024 * o.val, by omega⟩ := Fin.ext (by simp only [row]; omega)
      rw [er, hX.1, hP]
    · have hY := (h (by omega) a l).1 (by omega)
      rw [hX.2 a l (by omega), hY, eb'.resolve_right (by omega)]
      rw [show (t - 1) / 2 % 8 = t / 2 % 8 by omega]
  · intro ha hj
    have hY := (h (by omega) a l).1 (by omega)
    rw [hX.2 a l (by omega), hY, eb'.resolve_right (by omega)]
    rw [show (t - 1) / 2 % 8 = t / 2 % 8 - 1 by omega]

/-- After a sample's last point the block holds the layer's result. -/
theorem ok_last {A : Arr} {t : ℕ} {X : FVec Ideal S1x2048x1024 .f32} (h : Ok A t X) (ht : t % 16 = 15)
    (b : Fin 16) (hb : b.val = t / 16 % 16) (a : Fin 2048) (l : Fin 1024) : X (ix3 0 a l) = out A b a l := by
  have eb : (⟨t / 16 % 16, Nat.mod_lt _ (by omega)⟩ : Fin 16) = b := Fin.ext hb.symm
  have := (h a l).1 (by omega)
  rw [eb] at this
  exact this.trans (if_pos (by omega))

section points

variable {A : Arr} {b : Fin 16} {j : Fin 8} {o : Fin 2}
    {x0 : FVec Ideal S1x1024x1024 .bf16} {x1 : FVec Ideal S1x1024x128 .f32} {x2 : FVec Ideal S1x1024x1024 .f32}
    {x3 : FVec Ideal S1x6x1024 .f32} {x4 : FVec Ideal S1x128x128 .bf16} {x5 x6 x7 : FVec Ideal S1024x1024 .bf16}
    {x8 x9 : FVec Ideal S1024x256 .bf16} {x10 : FVec Ideal S256x1024 .bf16}
    {t : ℕ} {X Y : FVec Ideal S1x2048x1024 .f32}

theorem ok_first (B : Blocks A b j o x0 x1 x2 x3 x4 x5 x6 x7 x8 x9 x10) (hb : b.val = t / 16 % 16) (hj : j.val = t / 2 % 8)
    (ho : o.val = t % 2) (h : t % 16 ≠ 0 → Ok A (t - 1) Y) (h0 : t / 2 % 8 = 0)
    (hX : Left o (stepPay x0 x1 x4 x5 x6 x7 (k0_pay4 (F := Ideal) x0 x8 x9 x10)) Y X) : Ok A t X :=
  ok_step h b hb o ho hX fun r l => by
    rw [step_at B, shared_at B, h0, show j = 0 from Fin.ext (by rw [hj, h0]; rfl)]
    rfl

theorem ok_mid (B : Blocks A b j o x0 x1 x2 x3 x4 x5 x6 x7 x8 x9 x10) (hb : b.val = t / 16 % 16) (hj : j.val = t / 2 % 8)
    (ho : o.val = t % 2) (h : t % 16 ≠ 0 → Ok A (t - 1) Y) (h0 : t / 2 % 8 ≠ 0) (h7 : t / 2 % 8 ≠ 7)
    (hX : Left o (stepPay x0 x1 x4 x5 x6 x7 (rowsOf o Y)) Y X) : Ok A t X :=
  ok_step h b hb o ho hX fun r l => by
    rw [step_at B]
    have e := ok_old h (by omega) b hb o ho r l
    rw [show rowsOf o Y (ix3 0 r l) = Y (ix3 0 (row o r) l) from rfl, e, val, if_neg h7]
    obtain ⟨n, hn⟩ : ∃ n, t / 2 % 8 = n + 1 := ⟨t / 2 % 8 - 1, by omega⟩
    rw [hn, Nat.add_sub_cancel]
    exact congrArg (fun i => acc A b (row o r) l n + term A i b (row o r) l) (Fin.ext (by simp only []; omega))

theorem ok_final (B : Blocks A b j o x0 x1 x2 x3 x4 x5 x6 x7 x8 x9 x10) (hb : b.val = t / 16 % 16) (hj : j.val = t / 2 % 8)
    (ho : o.val = t % 2) (h : t % 16 ≠ 0 → Ok A (t - 1) Y) (h7 : t / 2 % 8 = 7)
    (hX : Left o (k0_pay2 (F := Ideal) x2 (rowFive x3) (stepPay x0 x1 x4 x5 x6 x7 (rowsOf o Y))) Y X) : Ok A t X :=
  ok_step h b hb o ho hX fun r l => by
    rw [out_at B (hj.trans h7), step_at B]
    have e := ok_old h (by omega) b hb o ho r l
    rw [show rowsOf o Y (ix3 0 r l) = Y (ix3 0 (row o r) l) from rfl, e, val, if_pos h7, h7,
      show j = 7 from Fin.ext (by rw [hj, h7]; rfl)]
    rfl

end points

end Cert.Kernel2Ideal.Moe
-- ==== Proof.Moe.Blocks.lean ====
module

public import proofs.«01_k».proof.Proof.Gen.Kernel2Ideal.Frame
public import proofs.«01_k».proof.Proof.Moe.Math

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The windows' arrays as the kernel call finds them. -/
def arrs (c : Dev nD) : Arr where
  h := V m c main_arg0
  g := V m c main_arg1
  x := V m c main_arg2
  md := V m c main_arg3
  sel := V m c main_cst
  wg := V m c main_v2
  wu := V m c main_v5
  wd := V m c main_v7
  sg := V m c main_v8
  su := V m c main_v9
  sd := V m c main_v10

/-- A grid point's sample, expert group and token tile. -/
def smp (t : Fin cfg0.N) : Fin 16 := ⟨t.val / 16 % 16, Nat.mod_lt _ (by omega)⟩
def grp (t : Fin cfg0.N) : Fin 8 := ⟨t.val / 2 % 8, Nat.mod_lt _ (by omega)⟩
def til (t : Fin cfg0.N) : Fin 2 := ⟨t.val % 2, Nat.mod_lt _ (by omega)⟩

theorem coord_til : ∀ t : Fin cfg0.N, @Eq (Fin 2) (grid0.coords t 2) (til t) :=
  (fun t => Fin.ext ((Pipeline.Grid.coords_val t 2 (by decide) rfl : (grid0.coords t 2).val = t.val / 1 % 2).trans
    (by rw [Nat.div_one]; rfl)) : ∀ t : Fin grid0.N, @Eq (Fin 2) (grid0.coords t 2) (til t))

theorem idxA : ∀ t : Fin cfg0.N, win0_0.index t = ![t.val / 16 % 16, t.val % 2, 0] ∧ win0_1.index t = ![t.val / 16 % 16, t.val % 2, 0]
    ∧ (t.val / 2 % 8 = 7 → win0_2.index t = ![t.val / 16 % 16, t.val % 2, 0]) ∧ win0_3.index t = ![t.val / 16 % 16, 0, 0]
    ∧ win0_4.index t = ![t.val / 2 % 8, 0, 0] ∧ win0_5.index t = ![0, t.val / 2 % 8] :=
  (by decide +kernel : ∀ t : Fin grid0.N, _)

theorem idxB : ∀ t : Fin cfg0.N, win0_6.index t = ![0, t.val / 2 % 8] ∧ win0_7.index t = ![t.val / 2 % 8, 0]
    ∧ win0_8.index t = ![0, 0] ∧ win0_9.index t = ![0, 0] ∧ win0_10.index t = ![0, 0] ∧ win0_11.index t = ![t.val / 16 % 16, 0, 0] :=
  (by decide +kernel : ∀ t : Fin grid0.N, _)

set_option maxHeartbeats 1000000 in
theorem blocks (c : Dev nD) (t : Fin cfg0.N) : Blocks (arrs m c) (smp t) (grp t) (til t) (iblk m c 0 t) (iblk m c 1 t) (iblk m c 2 t)
    (iblk m c 3 t) (iblk m c 4 t) (iblk m c 5 t) (iblk m c 6 t) (iblk m c 7 t) (iblk m c 8 t) (iblk m c 9 t) (iblk m c 10 t) := by
  obtain ⟨i0, i1, i2, i3, i4, i5⟩ := idxA t
  obtain ⟨i6, i7, i8, i9, i10, -⟩ := idxB t
  constructor
  · intro r q; blk_ext [iblk, arrs, i0, row, smp, til]
  · intro r q; blk_ext [iblk, arrs, i1, row, smp, til]
  · intro hj r q; blk_ext [iblk, arrs, i2 hj, row, smp, til]
  · intro r q; blk_ext [iblk, arrs, i3, smp]
  · intro r q; blk_ext [iblk, arrs, i4, grp]
  · intro r q; blk_ext [iblk, arrs, i5, grp, lane]
  · intro r q; blk_ext [iblk, arrs, i6, grp, lane]
  · intro r q; blk_ext [iblk, arrs, i7, grp, lane]
  · intro r q; blk_ext [iblk, arrs, i8]
  · intro r q; blk_ext [iblk, arrs, i9]
  · intro r q; blk_ext [iblk, arrs, i10]

end Cert.Kernel2Ideal.Moe
-- ==== Proof.Moe.RunA.lean ====
module

public import proofs.«01_k».proof.Proof.Gen.Kernel2Ideal.Frame
public import proofs.«01_k».proof.Proof.Moe.Rows
public import Idealize.ShloMosaic.Lib.Pipeline.ValueKit

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
theorem runA (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x6x1024 .f32) (harg6 : arg6.IsWhole) (arg7 : Memref sig .tc .vmem S1x128x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1x2048x1024 .f32) (harg14 : arg14.IsWhole) (hc0 : first i) (hc1 : ¬last i)
    (x0 : Vec Ideal S1x1024x1024 .bf16) (x1 : Vec Ideal S1x1024x128 .f32) (x2 : Vec Ideal S1x1024x1024 .f32) (x3 : Vec Ideal S1x6x1024 .f32) (x4 : Vec Ideal S1x128x128 .bf16) (x5 : Vec Ideal S1024x1024 .bf16) (x6 : Vec Ideal S1024x1024 .bf16) (x7 : Vec Ideal S1024x1024 .bf16) (x8 : Vec Ideal S1024x256 .bf16) (x9 : Vec Ideal S1024x256 .bf16) (x10 : Vec Ideal S256x1024 .bf16) (d : Vec Ideal S1x2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare d
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ X, ⌜Left (i 2) (stepPay x0 x1 x4 x5 x6 x7 (k0_pay4 (F := Ideal) x0 x8 x9 x10)) d X⌝ ∗ owns (c : Thread nD τ) arg14 fullShare X)) -∗ K ⟨⟩))
          ⊢ wp frame (wpE (defs₀ (F := Ideal)) Variants.none c none) E (cc0_moe_experts i arg3 harg3 arg4 harg4 arg5 harg5 arg6 harg6 arg7 harg7 arg8 harg8 arg9 harg9 arg10 harg10 arg11 harg11 arg12 harg12 arg13 harg13 arg14 harg14) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _
    isplitr; swap
    · iexists _; isplitr; swap; · iexact H11
      ipureintro; rfl
    ipureintro
    frame_open
    refine left_of_writes _ _ (i 2) (k0_off2_eq i) _ _ _ _ _ (fun a l ha => ?_) ?_
    · exact (read_writes_off _ _ (i 2) (k0_off1_eq i) _ _ _ a l ha).trans (congrFun (harg14.read_unread d) _)
    · simp only [View.readCov]
      unfold stepPay
      rw [readAt_tile_writes _ _ (i 2) (k0_off2_eq i) (k0_off1_eq i)]
      simp only [readAt_whole harg3, readAt_whole harg4, readAt_whole harg5, readAt_whole harg7, readAt_whole harg8, readAt_whole harg9, readAt_whole harg10, readAt_whole harg11, readAt_whole harg12, readAt_whole harg13, readAt_five harg6]
end Cert.Kernel2Ideal.Moe
-- ==== Proof.Moe.RunB.lean ====
module

public import proofs.«01_k».proof.Proof.Gen.Kernel2Ideal.Frame
public import proofs.«01_k».proof.Proof.Moe.RunA
public import Idealize.ShloMosaic.Lib.Pipeline.ValueKit

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
theorem runB (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x6x1024 .f32) (harg6 : arg6.IsWhole) (arg7 : Memref sig .tc .vmem S1x128x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1x2048x1024 .f32) (harg14 : arg14.IsWhole) (hc0 : ¬first i) (hc1 : ¬last i)
    (x0 : Vec Ideal S1x1024x1024 .bf16) (x1 : Vec Ideal S1x1024x128 .f32) (x2 : Vec Ideal S1x1024x1024 .f32) (x3 : Vec Ideal S1x6x1024 .f32) (x4 : Vec Ideal S1x128x128 .bf16) (x5 : Vec Ideal S1024x1024 .bf16) (x6 : Vec Ideal S1024x1024 .bf16) (x7 : Vec Ideal S1024x1024 .bf16) (x8 : Vec Ideal S1024x256 .bf16) (x9 : Vec Ideal S1024x256 .bf16) (x10 : Vec Ideal S256x1024 .bf16) (d : Vec Ideal S1x2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare d
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ X, ⌜Left (i 2) (stepPay x0 x1 x4 x5 x6 x7 (rowsOf (i 2) d)) d X⌝ ∗ owns (c : Thread nD τ) arg14 fullShare X)) -∗ K ⟨⟩))
          ⊢ wp frame (wpE (defs₀ (F := Ideal)) Variants.none c none) E (cc0_moe_experts i arg3 harg3 arg4 harg4 arg5 harg5 arg6 harg6 arg7 harg7 arg8 harg8 arg9 harg9 arg10 harg10 arg11 harg11 arg12 harg12 arg13 harg13 arg14 harg14) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _
    isplitr; swap
    · iexists _; isplitr; swap; · iexact H11
      ipureintro; rfl
    ipureintro
    frame_open
    refine left_of_writes _ _ (i 2) (k0_off2_eq i) _ _ _ _ _ (fun a l ha => ?_) ?_
    · exact congrFun (harg14.read_unread d) _
    · simp only [View.readCov]
      unfold stepPay
      rw [readAt_tile _ _ (i 2) (k0_off2_eq i), harg14.read_unread]
      simp only [readAt_whole harg3, readAt_whole harg4, readAt_whole harg5, readAt_whole harg7, readAt_whole harg8, readAt_whole harg9, readAt_whole harg10, readAt_whole harg11, readAt_whole harg12, readAt_whole harg13, readAt_five harg6]
end Cert.Kernel2Ideal.Moe
-- ==== Proof.Moe.RunC.lean ====
module

public import proofs.«01_k».proof.Proof.Gen.Kernel2Ideal.Frame
public import proofs.«01_k».proof.Proof.Moe.RunB
public import Idealize.ShloMosaic.Lib.Pipeline.ValueKit

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
theorem runC (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x6x1024 .f32) (harg6 : arg6.IsWhole) (arg7 : Memref sig .tc .vmem S1x128x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1x2048x1024 .f32) (harg14 : arg14.IsWhole) (hc0 : ¬first i) (hc1 : last i)
    (x0 : Vec Ideal S1x1024x1024 .bf16) (x1 : Vec Ideal S1x1024x128 .f32) (x2 : Vec Ideal S1x1024x1024 .f32) (x3 : Vec Ideal S1x6x1024 .f32) (x4 : Vec Ideal S1x128x128 .bf16) (x5 : Vec Ideal S1024x1024 .bf16) (x6 : Vec Ideal S1024x1024 .bf16) (x7 : Vec Ideal S1024x1024 .bf16) (x8 : Vec Ideal S1024x256 .bf16) (x9 : Vec Ideal S1024x256 .bf16) (x10 : Vec Ideal S256x1024 .bf16) (d : Vec Ideal S1x2048x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare d
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ X, ⌜Left (i 2) (k0_pay2 (F := Ideal) x2 (rowFive x3) (stepPay x0 x1 x4 x5 x6 x7 (rowsOf (i 2) d))) d X⌝ ∗ owns (c : Thread nD τ) arg14 fullShare X)) -∗ K ⟨⟩))
          ⊢ wp frame (wpE (defs₀ (F := Ideal)) Variants.none c none) E (cc0_moe_experts i arg3 harg3 arg4 harg4 arg5 harg5 arg6 harg6 arg7 harg7 arg8 harg8 arg9 harg9 arg10 harg10 arg11 harg11 arg12 harg12 arg13 harg13 arg14 harg14) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _
    isplitr; swap
    · iexists _; isplitr; swap; · iexact H11
      ipureintro; rfl
    ipureintro
    frame_open
    refine left_of_writes _ _ (i 2) (k0_off3_eq i) _ _ _ _ _ (fun a l ha => ?_) ?_
    · exact (read_writes_off _ _ (i 2) (k0_off2_eq i) _ _ _ a l ha).trans (congrFun (harg14.read_unread d) _)
    · simp only [View.readCov]
      unfold stepPay
      rw [readAt_tile_writes _ _ (i 2) (k0_off3_eq i) (k0_off2_eq i), readAt_tile _ _ (i 2) (k0_off2_eq i), harg14.read_unread]
      simp only [readAt_whole harg3, readAt_whole harg4, readAt_whole harg5, readAt_whole harg7, readAt_whole harg8, readAt_whole harg9, readAt_whole harg10, readAt_whole harg11, readAt_whole harg12, readAt_whole harg13, readAt_five harg6]
end Cert.Kernel2Ideal.Moe
-- ==== Proof.Moe.Obl.lean ====
module

public import proofs.«01_k».proof.Proof.Moe.Blocks
public import proofs.«01_k».proof.Proof.Moe.RunA
public import proofs.«01_k».proof.Proof.Moe.RunB
public import proofs.«01_k».proof.Proof.Moe.RunC
public import Idealize.ShloMosaic.Lib.Pipeline.DatRel
public import Idealize.ShloMosaic.Lib.Pipeline.ArrRel

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- It holds at the points whose coordinates have i1 = 0 — by arithmetic of the point. -/
theorem first_iff : ∀ t : Fin cfg0.N, first (grid0.coords t) ↔ t.val / 2 % 8 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [first, k0_cond1, e0, e1, e2]
    word_cmp
   : ∀ t : Fin grid0.N, first (grid0.coords t) ↔ t.val / 2 % 8 = 0)

/-- It holds at the points whose coordinates have i1 = 7 — by arithmetic of the point. -/
theorem last_iff : ∀ t : Fin cfg0.N, last (grid0.coords t) ↔ t.val / 2 % 8 = 7 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [last, k0_cond2, e0, e1, e2]
    word_cmp
   : ∀ t : Fin grid0.N, last (grid0.coords t) ↔ t.val / 2 % 8 = 7)

/-! ## The kernel body on any staging memrefs: a subtype the run finds -/

/-- Each window's current staging memref at point `t`, spelled as the pipeline passes it (`bodyAt0`), and its wholeness. -/
abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048x1024 .f32 := win0_11.stage (cfg0.slots t 11)
abbrev hs0_11 (t : Fin cfg0.N) : (ms0_11 t).IsWhole := hstage0_11 ((cfg0.slots t 11).cast nbuf0_11)

/-- The proof data: the inputs' blocks stay, the output's contents are named by no function. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The output window's contents are followed by a predicate. -/
def marked : Fin cfg0.W → Bool := fun w => match w with
  | ⟨11, _⟩ => true
  | _ => false

/-- What the body leaves in the output's block at a point. -/
def Rl (c : Dev nD) : (w : Fin cfg0.W) → Fin cfg0.N → ((cfg0.win w).block.Idx → Elt Ideal (cfg0.win w).elt) → Prop := fun w => match w with
  | ⟨11, _⟩ => fun t X => Ok (arrs m c) t.val X
  | _ => fun _ _ => True

/-- What the body finds in the output's block, past a sample's first point, is what the point before left. -/
theorem found (c : Dev nD) (t : Fin cfg0.N) (Y : FVec Ideal S1x2048x1024 .f32)
    (hY : ((dats m 0 c).toRRel marked (Rl m c)).Finds 11 t Y) (ht : t.val % 16 ≠ 0) : Ok (arrs m c) (t.val - 1) Y := by
  have h := (((dats m 0 c).toRRel marked (Rl m c)).finds_of_pos (w := 11) (t := t) rfl (fun e => ht (by rw [e])) Y).mp hY
  rcases h with h | h
  · have := (flush0_11 ⟨t.val - 1, Nat.lt_of_le_of_lt (Nat.sub_le _ _) t.isLt⟩).mp h
    exact absurd this (by simp only []; omega)
  · exact (dats m 0 c).toRRel_leaves (w := 11) rfl h

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜((dats m 0 c).toRRel marked (Rl m c)).Finds 11 t Y⌝ ∗ owns (c : Thread nD τ) (ms0_11 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜Rl m c 11 t X⌝ ∗ owns (c : Thread nD τ) (ms0_11 t) fullShare X))

set_option maxHeartbeats 3600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 256 := lt_of_lt_of_eq t.isLt (show cfg0.N = 256 from N_0)
  by_cases h0 : t.val / 2 % 8 = 0
  · by_cases h1 : t.val / 2 % 8 = 7
    · exfalso; omega
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
      iapply ((runA c (grid0.coords t) _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) Y) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iintro ⟨H0, H1, H2, H3, H4, H5, H6, H7, H8, H9, H10, ⟨%X, %hX, H11⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists X; isplitr
      · ipureintro
        rw [coord_til t] at hX
        exact ok_first (blocks m c t) rfl rfl rfl (found m c t Y hY) h0 hX
      · iexact H11
  · by_cases h1 : t.val / 2 % 8 = 7
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
      iapply ((runC c (grid0.coords t) _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) Y) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iintro ⟨H0, H1, H2, H3, H4, H5, H6, H7, H8, H9, H10, ⟨%X, %hX, H11⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists X; isplitr
      · ipureintro
        rw [coord_til t] at hX
        exact ok_final (blocks m c t) rfl rfl rfl (found m c t Y hY) h1 hX
      · iexact H11
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y, %hY, H11⟩⟩
      iapply ((runB c (grid0.coords t) _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) Y) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iintro ⟨H0, H1, H2, H3, H4, H5, H6, H7, H8, H9, H10, ⟨%X, %hX, H11⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists X; isplitr
      · ipureintro
        rw [coord_til t] at hX
        exact ok_mid (blocks m c t) rfl rfl rfl (found m c t Y hY) h0 h1 hX
      · iexact H11

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats m 0 c) (defs₀ (F := Ideal)) Variants.none () Set.univ marked (Rl m c) := fun t => by
  rw [bigSep_W0, bigSep_W0, defs₀_row]
  exact triple_restated (sound_body m c t) rfl .rfl fun _ => .rfl

/-! ## The run -/

set_option backward.isDefEq.respectTransparency.types false in
theorem run_quiescent (ρ : Dev nD → PrngReg) : θ_run defs (onTc (τ := τ) (main (F := Ideal))) (s₀ m ρ)
    (fun r => (Pipeline.RDat.FramePost (cfgs 0) (fun c => (dats m 0 c).toRRel marked (Rl m c)) (V m)) r ∧ r.2.sem = fun _ => 0) :=
  Pipeline.RDat.θ_run_frame (Q' := _) cfgs (0 : Fin 1) launch0 defs₀ Variants.none (fun c => (dats m 0 c).toRRel marked (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

variable (ρ : Dev nD → PrngReg)

/-- A run leaves the arguments unchanged. -/
theorem frame_rel (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

end Cert.Kernel2Ideal.Moe
-- ==== Proof.Moe.Run.lean ====
module

public import proofs.«01_k».proof.Proof.Moe.Obl

@[expose] public section

set_option maxRecDepth 16384

noncomputable section

namespace Cert.Kernel2Ideal.Moe

open Cert.Kernel2Ideal Cert.Kernel2Ideal.Gen
open Idealize.ShloMosaic Idealize.ShloMosaic.TcCoe Idealize.ShloMosaic.Tactic
open Idealize.SL Idealize.SL.RA Idealize.SL.BI
open Idealize.SL.Sem
open Idealize.ShloMosaic.Rounds
open Idealize.ShloMosaic.Pipeline (Dat Cfg Window cellOf)

variable (m : (ℓ : Loc nD τ sig) → Buf (Elt Ideal) ℓ)

/-- The result: the input rows plus the gated sum of every expert group's rows. -/
def result (c : Dev nD) : main_v11.ty.Idx → Elt Ideal main_v11.ty.elt :=
  fun i => out (arrs m c) (i 0) (i 1) (i 2)

theorem sel11 : ∀ t : Fin cfg0.N, win0_11.index t = ![t.val / 16 % 16, 0, 0] := fun t => (idxB t).2.2.2.2.2

/-- The flushed blocks make up the result. -/
theorem array_eq (c : Dev nD) (after : (w : Fin cfg0.W) → (t : Fin cfg0.N) → (cfg0.win w).block.Idx → Elt Ideal (cfg0.win w).elt)
    (h : ∀ t : Fin cfg0.N, t.val % 16 = 15 → Ok (arrs m c) t.val (after 11 t)) :
    (((dats m 0 c).toRRel marked (Rl m c)).withAfter after).arrAt 11 cfg0.N = result m c :=
  (((dats m 0 c).toRRel marked (Rl m c)).withAfter after).arrAt_eq_of_covers 11 _ (by decide +kernel) fun t ht y => by
    have h15 := (flush0_11 t).mp ht
    show after 11 t y = _
    have e := ok_last (h t h15) h15 (b := smp t) rfl (y 1) (y 2)
    have ey : y = ix3 (0 : Fin 1) (y 1) (y 2) := by
      funext k; match k with
        | ⟨0, _⟩ => exact Fin.ext (Nat.lt_one_iff.mp (y 0).isLt)
        | ⟨1, _⟩ => rfl
        | ⟨2, _⟩ => rfl
    rw [ey]
    refine e.trans ?_
    show result m c (ix3 (smp t) (y 1) (y 2)) = _
    blk_ext [sel11 t, smp]

set_option backward.isDefEq.respectTransparency.types false in
/-- What a run of the kernel leaves: the result, the arguments as they were. -/
theorem run (ρ : Dev nD → PrngReg) : θ_run defs (onTc (τ := τ) (main (F := Ideal))) ⟨m, fun _ => 0, ρ⟩ (fun r => ∀ c : Dev nD,
    r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨by
      obtain ⟨after, ha, hr⟩ := Pipeline.RDat.FramePost.exists_exact h.2.1 c
      refine (hr 11).trans (array_eq m c after fun t ht => ?_)
      exact (dats m 0 c).toRRel_leaves (w := 11) rfl (ha 11 t ((flush0_11 t).mpr ht)), h.1 c⟩)
    (θ_run_and (frame_rel m ρ _ (fun c => A_eq m c) ((θ_run defs _ _).mono (fun _ h => h.1) (run_quiescent m ρ))) (run_quiescent m ρ))

/-- The frame: every run ends, with the arguments unchanged and the semaphores at zero. -/
theorem frame (ρ : Dev nD → PrngReg) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_rel m ρ _ (fun c => A_eq m c) ((θ_run defs _ _).mono (fun _ h => h.1) (run_quiescent m ρ)))
    ((θ_run defs _ _).mono (fun _ h => h.2) (run_quiescent m ρ))

end Cert.Kernel2Ideal.Moe
-- ==== Proof.Moe.TableLit.lean ====
module

public import proofs.«01_k».proof.Kernel2Ideal

@[expose] public section

set_option maxRecDepth 16384

noncomputable section

open Idealize.ShloMosaic Idealize.ShloMosaic.TcCoe Idealize.SL.Sem

namespace Cert.Kernel2Ideal.Moe

open Cert.Kernel2Ideal

/-- Column `e` of group `j`'s selection matrix is the unit column of expert `8j + e`. -/
theorem table : ∀ (j : Fin 8) (q : Fin 128) (e : Fin 8),
    lit0t ((j.val * 128 + q.val) * 128 + e.val) = if q.val = 8 * j.val + e.val then 0x3F80#16 else 0x0000#16 := by
  decide +kernel

end Cert.Kernel2Ideal.Moe
-- ==== Proof.Moe.Table.lean ====
module

public import proofs.«01_k».proof.Proof.Moe.Math
public import proofs.«01_k».proof.Proof.Moe.TableLit
public import Idealize.ShloMosaic.Lib.IdealHost

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

theorem lit_val (i : Fin 131072) (n : ℕ) (h : i.val = n) : lit0 i = lit0t n := by
  subst h; rfl

theorem table_at (j : Fin 8) (q : Fin 128) (e : Fin 8) :
    (FloatOps.ofBits .bf16 (lit0 (S8x128x128.rowMajor (ix3 j q ⟨e.val, by omega⟩))) : Ideal .bf16)
      = if q.val = 8 * j.val + e.val then (1 : EReal) else 0 := by
  have h : (S8x128x128.rowMajor (ix3 j q (⟨e.val, by omega⟩ : Fin 128))).val = (j.val * 128 + q.val) * 128 + e.val := by
    rw [Shape.rowMajor_val_three]
    rfl
  rw [lit_val _ _ h, table]
  split
  · exact Ideal.ofBits_one_bf16
  · exact Ideal.ofBits_zero_bf16

/-- Selecting with a unit column: the gate itself, where it is finite. -/
theorem pick_unit (g s : Fin 128 → EReal) (q : Fin 128) (hs : ∀ k, s k = if k = q then 1 else 0) (hg : g q - g q = 0) :
    pick g s = g q := by
  have e1 : (∑ k : Fin 128, g k * s k) = g q := by
    rw [Finset.sum_eq_single q]
    · rw [hs, if_pos rfl, mul_one]
    · intro k _ hk; rw [hs, if_neg hk, mul_zero]
    · intro h; exact absurd (Finset.mem_univ q) h
  have e2 : (∑ k : Fin 128, (g k - g k) * s k) = 0 := by
    apply Finset.sum_eq_zero
    intro k _
    by_cases hk : k = q
    · subst hk; rw [hg, zero_mul]
    · rw [hs, if_neg hk, mul_zero]
  rw [pick, e1, e2, add_zero]

/-- The groups' sum is the shared part plus all groups. -/
theorem acc_eq (A : Arr) (b : Fin 16) (a : Fin 2048) (l : Fin 1024) :
    acc A b a l 7 = (∑ j : Fin 8, term A j b a l) + shared A b a l := by
  have h : ∀ n (hn : n < 8), acc A b a l n = shared A b a l + ∑ j : Fin (n + 1), term A ⟨j.val, by omega⟩ b a l := by
    intro n
    induction n with
    | zero => intro _; simp [acc]
    | succ n ih =>
      intro hn
      rw [acc, ih (by omega), Fin.sum_univ_castSucc (n := n + 1), add_assoc]
      have : (⟨(n + 1) % 8, Nat.mod_lt _ (by omega)⟩ : Fin 8) = ⟨n + 1, hn⟩ := Fin.ext (Nat.mod_eq_of_lt hn)
      rw [this]
      rfl
  rw [h 7 (by omega), add_comm]

end Cert.Kernel2Ideal.Moe
-- ==== Proof.Moe.RefRead.lean ====
module

public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.Moe

open Cert.Reference2Ideal Cert.Reference2Ideal.Gen Cert.Reference2Ideal.Read

/-- The reference's gated activation. -/
def glu (u v : EReal) : EReal := u * Ideal.div 1 (1 + Ideal.exp (-u)) * v

set_option maxHeartbeats 2000000 in
/-- The reference's result at an index. -/
theorem ref_at (x0 : (⟨S16x2048x1024, .bf16⟩ : BufTy).Contents (Elt Ideal)) (x1 : (⟨S16x2048x128, .f32⟩ : BufTy).Contents (Elt Ideal))
    (x2 : (⟨S16x2048x1024, .f32⟩ : BufTy).Contents (Elt Ideal)) (x3 : (⟨S16x6x1024, .f32⟩ : BufTy).Contents (Elt Ideal))
    (x4 x5 : (⟨S64x1024x128, .f32⟩ : BufTy).Contents (Elt Ideal)) (x6 : (⟨S64x128x1024, .f32⟩ : BufTy).Contents (Elt Ideal))
    (x7 x8 : (⟨S1024x256, .f32⟩ : BufTy).Contents (Elt Ideal)) (x9 : (⟨S256x1024, .f32⟩ : BufTy).Contents (Elt Ideal))
    (b : Fin 16) (a : Fin 2048) (l : Fin 1024) :
    val_main_v19 (F := Ideal) x0 x1 x2 x3 x4 x5 x6 x7 x8 x9 (ix3 b a l)
      = x2 (ix3 b a l) + x3 (ix3 b 5 l)
        * ((∑ e : Fin 64, ∑ f : Fin 128, glu (∑ q : Fin 1024, x0 (ix3 b a q) * x4 (ix3 e q f)) (∑ q : Fin 1024, x0 (ix3 b a q) * x5 (ix3 e q f))
              * x1 (ix3 b a ⟨e.val, by omega⟩) * x6 (ix3 e f l))
          + ∑ k : Fin 256, glu (∑ q : Fin 1024, x0 (ix3 b a q) * x7 (ix2 q k)) (∑ q : Fin 1024, x0 (ix3 b a q) * x8 (ix2 q k)) * x9 (ix2 k l)) := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1,
    val_main_v0, val_main_call0_v5, val_main_call0_v4, val_main_call0_v3, val_main_call0_v2, val_main_call0_v1, val_main_call0_v0,
    val_main_call0_cst, val_main_call0_cst_0, val_main_call1_v5, val_main_call1_v4, val_main_call1_v3, val_main_call1_v2,
    val_main_call1_v1, val_main_call1_v0, val_main_call1_cst, val_main_call1_cst_0, glu]

end Cert.Reference2Ideal.Moe
-- ==== Proof.Moe.Gates.lean ====
module

public import proofs.«01_k».proof.Proof.Gen.Pre_finite_gates
public import Idealize.ShloMosaic.Lib.Pointwise
public import Idealize.ShloMosaic.Lib.ReduceAll
public import Idealize.ShloMosaic.Lib.IdealHost

@[expose] public section

set_option maxRecDepth 16384

noncomputable section

open Idealize.ShloMosaic Idealize.ShloMosaic.TcCoe Idealize.SL.Sem

namespace Cert.Pre_finite_gates.Moe

open Cert.Pre_finite_gates

/-- Below infinity in absolute value is finite. -/
theorem sub_self_of_lt (x : EReal) (h : max x (-x) < ⊤) : x - x = 0 := by
  have h1 : x ≠ ⊤ := fun e => by subst e; simp at h
  have h2 : x ≠ ⊥ := fun e => by subst e; simp at h
  exact EReal.sub_self h1 h2

theorem inf_f32 : Ideal.ofBits .f32 0x7F800000#32 = ⊤ := by simp [Ideal.ofBits, Ideal.ieee]

/-- The precondition read back: an expert's gate less itself is zero. -/
theorem gate (x0 : FVec Ideal S16x2048x1024 .bf16) (x1 : FVec Ideal S16x2048x128 .f32) (x2 : FVec Ideal S16x2048x1024 .f32)
    (x3 : FVec Ideal S16x6x1024 .f32) (x4 x5 : FVec Ideal S64x1024x128 .f32) (x6 : FVec Ideal S64x128x1024 .f32)
    (x7 x8 : FVec Ideal S1024x256 .f32) (x9 : FVec Ideal S256x1024 .f32)
    (h : @fn Gen.facts Ideal _ x0 x1 x2 x3 x4 x5 x6 x7 x8 x9 = fun _ => 1#1) (b : Fin 16) (a : Fin 2048) (e : Fin 64) :
    x1 (ix3 b a ⟨e.val, by omega⟩) - x1 (ix3 b a ⟨e.val, by omega⟩) = 0 := by
  have : Subsingleton S_.Idx := ⟨fun i j => funext fun k => k.elim0⟩
  have h1 := congrFun h (fun k => k.elim0)
  have h2 := Host.reduce_andi_all _ _ _ _ _ h1 (ix3 b a e)
  have e1 : extractStridedSlice S16x2048x64 ![0, 0, 0] x1 Gen.facts.slices_S16x2048x128_S16x2048x64_0_0_0 (ix3 b a e)
      = x1 (ix3 b a ⟨e.val, by omega⟩) := by pointwise
  change Ideal.cmp .olt (max (extractStridedSlice S16x2048x64 ![0, 0, 0] x1 Gen.facts.slices_S16x2048x128_S16x2048x64_0_0_0 (ix3 b a e))
    (-(extractStridedSlice S16x2048x64 ![0, 0, 0] x1 Gen.facts.slices_S16x2048x128_S16x2048x64_0_0_0 (ix3 b a e))))
    (Ideal.ofBits .f32 0x7F800000#32) = 1#1 at h2
  rw [e1, inf_f32] at h2
  apply sub_self_of_lt
  by_contra hc
  simp [Ideal.cmp, hc] at h2

end Cert.Pre_finite_gates.Moe
-- ==== Proof.Moe.Final.lean ====
module

public import proofs.«01_k».proof.Proof.Moe.Run
public import proofs.«01_k».proof.Proof.Moe.Table
public import proofs.«01_k».proof.Proof.Moe.RefRead
public import proofs.«01_k».proof.Proof.Moe.Gates
public import Idealize.ShloMosaic.Lib.Claim

@[expose] public section

set_option maxRecDepth 16384

noncomputable section

open Idealize.ShloMosaic Idealize.ShloMosaic.TcCoe Idealize.SL.Sem

namespace Cert.Kernel2Ideal.Moe

open Cert.Kernel2Ideal Cert.Kernel2Ideal.Gen

variable (m : (ℓ : Loc nD τ sig) → Buf (Elt Ideal) ℓ)

/-- Lane `f` of chunk `t`. -/
def inner (t : Fin 8) (f : Fin 128) : Fin 1024 := ⟨t.val * 128 + f.val, by omega⟩

/-- Expert `t` of group `j`. -/
def expert (j t : Fin 8) : Fin 64 := ⟨j.val * 8 + t.val, by omega⟩

theorem ix3_congr {n0 n1 n2 : ℕ} {i i' : Fin n0} {j j' : Fin n1} {k k' : Fin n2} (h0 : i.val = i'.val) (h1 : j.val = j'.val)
    (h2 : k.val = k'.val) : ix3 i j k = ix3 i' j' k' := by
  rw [Fin.ext h0, Fin.ext h1, Fin.ext h2]

/-- The arguments of the kernel's program, at their shapes. -/
def a0 (c : Dev nD) : FVec Ideal S16x2048x1024 .bf16 := m ((c.tc : Thread nD τ).loc main_arg0)
def a1 (c : Dev nD) : FVec Ideal S16x2048x128 .f32 := m ((c.tc : Thread nD τ).loc main_arg1)
def a2 (c : Dev nD) : FVec Ideal S16x2048x1024 .f32 := m ((c.tc : Thread nD τ).loc main_arg2)
def a3 (c : Dev nD) : FVec Ideal S16x6x1024 .f32 := m ((c.tc : Thread nD τ).loc main_arg3)
def a4 (c : Dev nD) : FVec Ideal S64x1024x128 .f32 := m ((c.tc : Thread nD τ).loc main_arg4)
def a5 (c : Dev nD) : FVec Ideal S64x1024x128 .f32 := m ((c.tc : Thread nD τ).loc main_arg5)
def a6 (c : Dev nD) : FVec Ideal S64x128x1024 .f32 := m ((c.tc : Thread nD τ).loc main_arg6)
def a7 (c : Dev nD) : FVec Ideal S1024x256 .f32 := m ((c.tc : Thread nD τ).loc main_arg7)
def a8 (c : Dev nD) : FVec Ideal S1024x256 .f32 := m ((c.tc : Thread nD τ).loc main_arg8)
def a9 (c : Dev nD) : FVec Ideal S256x1024 .f32 := m ((c.tc : Thread nD τ).loc main_arg9)

theorem h_eq (c : Dev nD) : (arrs m c).h = a0 m c := V_main_arg0 m c
theorem g_eq (c : Dev nD) : (arrs m c).g = a1 m c := V_main_arg1 m c
theorem x_eq (c : Dev nD) : (arrs m c).x = a2 m c := V_main_arg2 m c
theorem md_eq (c : Dev nD) : (arrs m c).md = a3 m c := V_main_arg3 m c

theorem wg_at (c : Dev nD) (j t : Fin 8) (f : Fin 128) (q : Fin 1024) :
    (arrs m c).wg (ix2 q (lane j (inner t f))) = a4 m c (ix3 (expert j t) q f) := by
  show V m c main_v2 (ix2 q (lane j (inner t f))) = _
  entry_read
  pointwise [lane, inner, expert]
  exact congrArg (a4 m c) (ix3_congr (by show _ / 128 = j.val * 8 + t.val; omega) rfl (by show _ % 128 = f.val; omega))

theorem wu_at (c : Dev nD) (j t : Fin 8) (f : Fin 128) (q : Fin 1024) :
    (arrs m c).wu (ix2 q (lane j (inner t f))) = a5 m c (ix3 (expert j t) q f) := by
  show V m c main_v5 (ix2 q (lane j (inner t f))) = _
  entry_read
  pointwise [lane, inner, expert]
  exact congrArg (a5 m c) (ix3_congr (by show _ / 128 = j.val * 8 + t.val; omega) rfl (by show _ % 128 = f.val; omega))

theorem wd_at (c : Dev nD) (j t : Fin 8) (f : Fin 128) (l : Fin 1024) :
    (arrs m c).wd (ix2 (lane j (inner t f)) l) = a6 m c (ix3 (expert j t) f l) := by
  show V m c main_v7 (ix2 (lane j (inner t f)) l) = _
  entry_read
  pointwise [lane, inner, expert]
  exact congrArg (a6 m c) (ix3_congr (by show _ / 128 = j.val * 8 + t.val; omega) (by show _ % 128 = f.val; omega) rfl)

theorem sg_eq (c : Dev nD) : (arrs m c).sg = a7 m c := by
  show V m c main_v8 = _
  entry_read
  rfl

theorem su_eq (c : Dev nD) : (arrs m c).su = a8 m c := by
  show V m c main_v9 = _
  entry_read
  rfl

theorem sd_eq (c : Dev nD) : (arrs m c).sd = a9 m c := by
  show V m c main_v10 = _
  entry_read
  rfl

theorem sel_at (c : Dev nD) (j t : Fin 8) (q : Fin 128) :
    (arrs m c).sel (ix3 j q ⟨t.val, by omega⟩) = if q.val = 8 * j.val + t.val then (1 : EReal) else 0 := by
  have h : V m c main_cst = fun i => (FloatOps.ofBits .bf16 (lit0 (S8x128x128.rowMajor i)) : Ideal .bf16) := by
    entry_read
    rfl
  show V m c main_cst (ix3 j q ⟨t.val, by omega⟩) = _
  rw [h]
  exact table_at j q t

/-- The experts' gates of a token are finite. -/
def Settled (x : FVec Ideal S16x2048x128 .f32) (b : Fin 16) (a : Fin 2048) : Prop :=
  ∀ e : Fin 64, x (ix3 b a ⟨e.val, by omega⟩) - x (ix3 b a ⟨e.val, by omega⟩) = 0

/-- The gate column of expert `t` of group `j`. -/
theorem pick_at (c : Dev nD) (b : Fin 16) (a : Fin 2048) (j t : Fin 8) (hg : Settled (a1 m c) b a) :
    pick (fun q => a1 m c (ix3 b a q)) (fun q => (arrs m c).sel (ix3 j q ⟨t.val, by omega⟩))
      = a1 m c (ix3 b a ⟨(expert j t).val, by omega⟩) := by
  refine pick_unit _ _ ⟨(expert j t).val, by omega⟩ (fun k => ?_) (hg (expert j t))
  rw [sel_at]
  have : (k.val = 8 * j.val + t.val) ↔ k = ⟨(expert j t).val, by omega⟩ := by
    rw [Fin.ext_iff]
    show _ ↔ k.val = j.val * 8 + t.val
    omega
  simp only [this]

/-- A chunk's lane, as the group's term reads it. -/
theorem term_eq (c : Dev nD) (j : Fin 8) (b : Fin 16) (a : Fin 2048) (l : Fin 1024) (hg : Settled (a1 m c) b a) :
    term (arrs m c) j b a l = ∑ t : Fin 8, ∑ f : Fin 128,
      glu (∑ q : Fin 1024, a0 m c (ix3 b a q) * a4 m c (ix3 (expert j t) q f)) (∑ q : Fin 1024, a0 m c (ix3 b a q) * a5 m c (ix3 (expert j t) q f))
        * a1 m c (ix3 b a ⟨(expert j t).val, by omega⟩) * a6 m c (ix3 (expert j t) f l) := by
  rw [term, h_eq, g_eq]
  refine (Fin.sum_univ_tiles 8 128 rfl _).trans (Finset.sum_congr rfl fun t _ => Finset.sum_congr rfl fun f _ => ?_)
  have hk : (⟨(inner t f).val / 128, by have := (inner t f).isLt; omega⟩ : Fin 128) = ⟨t.val, by omega⟩ := Fin.ext (by
    show (t.val * 128 + f.val) / 128 = t.val
    omega)
  have e1 := pick_at m c b a j t hg
  rw [← hk] at e1
  have e2 : (∑ q : Fin 1024, a0 m c (ix3 b a q) * (arrs m c).wg (ix2 q (lane j (inner t f)))) = ∑ q : Fin 1024, a0 m c (ix3 b a q) * a4 m c (ix3 (expert j t) q f) :=
    Finset.sum_congr rfl fun q _ => by rw [wg_at]
  have e3 : (∑ q : Fin 1024, a0 m c (ix3 b a q) * (arrs m c).wu (ix2 q (lane j (inner t f)))) = ∑ q : Fin 1024, a0 m c (ix3 b a q) * a5 m c (ix3 (expert j t) q f) :=
    Finset.sum_congr rfl fun q _ => by rw [wu_at]
  exact congrArg₂ (· * ·) (congrArg₂ (· * ·) (congrArg₂ glu e2 e3) e1) (wd_at m c j t f l)

/-- The kernel's result is the reference's. -/
theorem result_at (c : Dev nD) (b : Fin 16) (a : Fin 2048) (l : Fin 1024) (hg : Settled (a1 m c) b a) :
    result m c (ix3 b a l) = Cert.Reference2Ideal.Read.val_main_v19 (F := Ideal) (a0 m c) (a1 m c) (a2 m c) (a3 m c) (a4 m c) (a5 m c)
      (a6 m c) (a7 m c) (a8 m c) (a9 m c) (ix3 b a l) := by
  refine Eq.trans ?_ (Cert.Reference2Ideal.Moe.ref_at _ _ _ _ _ _ _ _ _ _ b a l).symm
  show out (arrs m c) b a l = _
  rw [out, acc_eq, x_eq, md_eq]
  refine congrArg (a2 m c (ix3 b a l) + a3 m c (ix3 b 5 l) * ·) (congrArg₂ (· + ·) ?_ ?_)
  · refine Eq.trans (Finset.sum_congr rfl fun j _ => term_eq m c j b a l hg) (Fin.sum_univ_tiles 8 8 rfl fun e : Fin 64 =>
      ∑ f : Fin 128, glu (∑ q : Fin 1024, a0 m c (ix3 b a q) * a4 m c (ix3 e q f)) (∑ q : Fin 1024, a0 m c (ix3 b a q) * a5 m c (ix3 e q f))
        * a1 m c (ix3 b a ⟨e.val, by omega⟩) * a6 m c (ix3 e f l)).symm
  · rw [shared, h_eq, sg_eq, su_eq, sd_eq]
    rfl

/-- The kernel's result array is the reference's. -/
theorem result_eq (c : Dev nD) (hg : ∀ b a, Settled (a1 m c) b a) :
    result m c = Cert.Reference2Ideal.Read.val_main_v19 (F := Ideal) (a0 m c) (a1 m c) (a2 m c) (a3 m c) (a4 m c) (a5 m c)
      (a6 m c) (a7 m c) (a8 m c) (a9 m c) := by
  funext i
  have e : i = ix3 (i 0) (i 1) (i 2) := by
    funext k; match k with
      | ⟨0, _⟩ => rfl
      | ⟨1, _⟩ => rfl
      | ⟨2, _⟩ => rfl
  rw [e]
  exact result_at m c (i 0) (i 1) (i 2) (hg _ _)

end Cert.Kernel2Ideal.Moe
-- ==== Proof.Word.Runs.lean ====
/- The frame on words: what the runs of the kernel on words share: the branch conditions and the staging buffers. -/
module

public import proofs.«01_k».proof.Proof.Gen.Kernel2.Frame
public import proofs.«01_k».proof.Proof.Gen.Kernel2.Skeleton

@[expose] public section

-- membership in a rectangle of production extents (`View.cover_of_tiled`): the elaborator's structural look
-- recurses once per coordinate of the long axes
set_option maxRecDepth 16384

noncomputable section

namespace Cert.Kernel2.Word

open Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame, from a run to the post of the proof data whose arrays are those at entry. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 = 0 — by arithmetic of the point. -/
theorem hcond0_0 : ∀ t : Fin cfg0.N, cond0_0 (grid0.coords t) ↔ t.val / 2 % 8 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val / 2 % 8 = 0)

/-- The condition of the body's `scf.if` 1 (`k0_h2`), from the grid coordinates (the skeleton's scalar
    chain substituted). -/
abbrev cond0_1 (i : grid0.Coords) : Prop := k0_cond2 i = 1#1
/-- It holds at the points whose coordinates have i1 = 7 — by arithmetic of the point. -/
theorem hcond0_1 : ∀ t : Fin cfg0.N, cond0_1 (grid0.coords t) ↔ t.val / 2 % 8 = 7 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [cond0_1, k0_cond2, e0, e1, e2]
    word_cmp
   : ∀ t : Fin grid0.N, cond0_1 (grid0.coords t) ↔ t.val / 2 % 8 = 7)

/-! ## The kernel body on any staging memrefs: a subtype the run finds -/

/-- Each window's current staging memref at point `t`, spelled as the pipeline passes it (`bodyAt0`), and its wholeness. -/
abbrev ms0_0 (t : Fin cfg0.N) : Memref sig .tc .vmem S1x1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2048x1024 .f32 := win0_11.stage (cfg0.slots t 11)
abbrev hs0_11 (t : Fin cfg0.N) : (ms0_11 t).IsWhole := hstage0_11 ((cfg0.slots t 11).cast nbuf0_11)

end Cert.Kernel2.Word

end
-- ==== Proof.Word.RunA.lean ====
/- The frame on words: the body on words where a tile is opened. -/
module

public import proofs.«01_k».proof.Proof.Word.Runs

@[expose] public section

-- membership in a rectangle of production extents (`View.cover_of_tiled`): the elaborator's structural look
-- recurses once per coordinate of the long axes
set_option maxRecDepth 16384

noncomputable section

namespace Cert.Kernel2.Word

open Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 1, … 241: 32 of 256): on whole staging memrefs — the inputs' at their contents,
    the FORGOTTEN outputs' (11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x6x1024 .f32) (harg6 : arg6.IsWhole) (arg7 : Memref sig .tc .vmem S1x128x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1x2048x1024 .f32) (harg14 : arg14.IsWhole) (hc0 : cond0_0 i) (hc1 : ¬cond0_1 i)
    (x0 : Vec F S1x1024x1024 .bf16) (x1 : Vec F S1x1024x128 .f32) (x2 : Vec F S1x1024x1024 .f32) (x3 : Vec F S1x6x1024 .f32) (x4 : Vec F S1x128x128 .bf16) (x5 : Vec F S1024x1024 .bf16) (x6 : Vec F S1024x1024 .bf16) (x7 : Vec F S1024x1024 .bf16) (x8 : Vec F S1024x256 .bf16) (x9 : Vec F S1024x256 .bf16) (x10 : Vec F S256x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)) -∗ K ⟨⟩))
          ⊢ wp frame (wpE (defs₀ (F := F)) Variants.none c none) E (cc0_moe_experts i arg3 harg3 arg4 harg4 arg5 harg5 arg6 harg6 arg7 harg7 arg8 harg8 arg9 harg9 arg10 harg10 arg11 harg11 arg12 harg12 arg13 harg13 arg14 harg14) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _, _; isplitr; swap; · iexact H11
    ipureintro; rfl

end Cert.Kernel2.Word

end
-- ==== Proof.Word.RunB.lean ====
/- The frame on words: the body on words in the middle of a tile. -/
module

public import proofs.«01_k».proof.Proof.Word.RunA

@[expose] public section

-- membership in a rectangle of production extents (`View.cover_of_tiled`): the elaborator's structural look
-- recurses once per coordinate of the long axes
set_option maxRecDepth 16384

noncomputable section

namespace Cert.Kernel2.Word

open Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 not taken: points 2, 3, … 253: 192 of 256): on whole staging memrefs — the inputs' at their contents,
    the FORGOTTEN outputs' (11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x6x1024 .f32) (harg6 : arg6.IsWhole) (arg7 : Memref sig .tc .vmem S1x128x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1x2048x1024 .f32) (harg14 : arg14.IsWhole) (hc0 : ¬cond0_0 i) (hc1 : ¬cond0_1 i)
    (x0 : Vec F S1x1024x1024 .bf16) (x1 : Vec F S1x1024x128 .f32) (x2 : Vec F S1x1024x1024 .f32) (x3 : Vec F S1x6x1024 .f32) (x4 : Vec F S1x128x128 .bf16) (x5 : Vec F S1024x1024 .bf16) (x6 : Vec F S1024x1024 .bf16) (x7 : Vec F S1024x1024 .bf16) (x8 : Vec F S1024x256 .bf16) (x9 : Vec F S1024x256 .bf16) (x10 : Vec F S256x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)) -∗ K ⟨⟩))
          ⊢ wp frame (wpE (defs₀ (F := F)) Variants.none c none) E (cc0_moe_experts i arg3 harg3 arg4 harg4 arg5 harg5 arg6 harg6 arg7 harg7 arg8 harg8 arg9 harg9 arg10 harg10 arg11 harg11 arg12 harg12 arg13 harg13 arg14 harg14) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _, _; isplitr; swap; · iexact H11
    ipureintro; rfl

end Cert.Kernel2.Word

end
-- ==== Proof.Word.RunC.lean ====
/- The frame on words: the body on words where a tile is closed. -/
module

public import proofs.«01_k».proof.Proof.Word.RunB

@[expose] public section

-- membership in a rectangle of production extents (`View.cover_of_tiled`): the elaborator's structural look
-- recurses once per coordinate of the long axes
set_option maxRecDepth 16384

noncomputable section

namespace Cert.Kernel2.Word

open Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 taken: points 14, 15, … 255: 32 of 256): on whole staging memrefs — the inputs' at their contents,
    the FORGOTTEN outputs' (11) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_C (c : Dev nD) (i : grid0.Coords) (arg3 : Memref sig .tc .vmem S1x1024x1024 .bf16) (harg3 : arg3.IsWhole) (arg4 : Memref sig .tc .vmem S1x1024x128 .f32) (harg4 : arg4.IsWhole) (arg5 : Memref sig .tc .vmem S1x1024x1024 .f32) (harg5 : arg5.IsWhole) (arg6 : Memref sig .tc .vmem S1x6x1024 .f32) (harg6 : arg6.IsWhole) (arg7 : Memref sig .tc .vmem S1x128x128 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S256x1024 .bf16) (harg13 : arg13.IsWhole) (arg14 : Memref sig .tc .vmem S1x2048x1024 .f32) (harg14 : arg14.IsWhole) (hc0 : ¬cond0_0 i) (hc1 : cond0_1 i)
    (x0 : Vec F S1x1024x1024 .bf16) (x1 : Vec F S1x1024x128 .f32) (x2 : Vec F S1x1024x1024 .f32) (x3 : Vec F S1x6x1024 .f32) (x4 : Vec F S1x128x128 .bf16) (x5 : Vec F S1024x1024 .bf16) (x6 : Vec F S1024x1024 .bf16) (x7 : Vec F S1024x1024 .bf16) (x8 : Vec F S1024x256 .bf16) (x9 : Vec F S1024x256 .bf16) (x10 : Vec F S256x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d)) -∗ K ⟨⟩))
          ⊢ wp frame (wpE (defs₀ (F := F)) Variants.none c none) E (cc0_moe_experts i arg3 harg3 arg4 harg4 arg5 harg5 arg6 harg6 arg7 harg7 arg8 harg8 arg9 harg9 arg10 harg10 arg11 harg11 arg12 harg12 arg13 harg13 arg14 harg14) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    iexists _, _; isplitr; swap; · iexact H11
    ipureintro; rfl

end Cert.Kernel2.Word

end
-- ==== Proof.Word.Frame.lean ====
/- The frame on words: the frame of the mixture-of-experts kernel on words. -/
module

public import proofs.«01_k».proof.Proof.Word.RunC
public import Idealize.ShloMosaic.Lib.Claim

@[expose] public section

-- membership in a rectangle of production extents (`View.cover_of_tiled`): the elaborator's structural look
-- recurses once per coordinate of the long axes
set_option maxRecDepth 16384

noncomputable section

namespace Cert.Kernel2.Word

open Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11): nothing reads what the kernel leaves in them, so nothing
    of it is named (Lib/Pipeline/Dat.lean `Dat.toRForget`). -/
def forgets0 : Fin 12 → Bool := fun w => w.val == 11

/-- The proof data of the one pipeline on core `c`: the arrays as the region finds them (`V`); after the body at
    point `t` each input's buffer at its block and the outputs, FORGOTTEN, at `Dat.unnamed`; the invariant the class's
    (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d))

set_option maxHeartbeats 3600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  have hN : t.val < 256 := lt_of_lt_of_eq t.isLt (show cfg0.N = 256 from N_0)
  by_cases h0 : t.val / 2 % 8 = 0
  · by_cases h1 : t.val / 2 % 8 = 7
    · exfalso; omega
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iintro ⟨H0, H1, H2, H3, H4, H5, H6, H7, H8, H9, H10, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · by_cases h1 : t.val / 2 % 8 = 7
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iintro ⟨H0, H1, H2, H3, H4, H5, H6, H7, H8, H9, H10, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      iintro ⟨H0, H1, H2, H3, H4, H5, H6, H7, H8, H9, H10, H11⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 11) (`RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- The frame of the kernel, at any reading of its words. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2.Word

end
-- ==== Proof.Proj.Out.lean ====
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The kernel's normed, scaled and shifted entry. -/
theorem pay1_at (x : Vec Ideal S1x1024x1024 .f32) (g : Vec Ideal S1x1024 .f32) (s h : Vec Ideal S1x1x1024 .f32) (r q : Fin 1024) :
    k0_pay1 x g s h (ix2 r q) = x (ix3 0 r q) * Ideal.rsqrt (Ideal.div (∑ k : Fin 1024, x (ix3 0 r k) * x (ix3 0 r k))
        (Ideal.ofBits FTy.f32 1149239296#32) + Ideal.ofBits FTy.f32 897988541#32) * g (ix2 0 q) * (1 + s (ix3 0 0 q)) + h (ix3 0 0 q) := by
  pointwise [k0_pay1]

/-- One block of the product. -/
theorem pay2_at (x w : Vec Ideal S1024x1024 .bf16) (r l : Fin 1024) :
    k0_pay2 x w (ix3 0 r l) = ∑ q : Fin 1024, x (ix2 r q) * w (ix2 q l) := by
  pointwise [k0_pay2]

/-- A grid point's sample, token tile and column tile. -/
def smp (t : Fin cfg0.N) : Fin 16 := ⟨t.val / 16 % 16, Nat.mod_lt _ (by omega)⟩
def til (t : Fin cfg0.N) : Fin 2 := ⟨t.val / 8 % 2, Nat.mod_lt _ (by omega)⟩
def colt (t : Fin cfg0.N) : Fin 8 := ⟨t.val % 8, Nat.mod_lt _ (by omega)⟩

/-- Row `r` of token tile `i`, and lane `l` of column tile `j`. -/
def row (i : Fin 2) (r : Fin 1024) : Fin 2048 := ⟨i.val * 1024 + r.val, by omega⟩
def lane (j : Fin 8) (l : Fin 1024) : Fin 8192 := ⟨j.val * 1024 + l.val, by omega⟩

/-- The windows' arrays as the kernel call finds them. -/
def xs (c : Dev nD) : FVec Ideal S16x2048x1024 .f32 := V m c main_arg0
def gs (c : Dev nD) : FVec Ideal S1x1024 .f32 := V m c main_v0
def ms (c : Dev nD) : FVec Ideal S16x6x1024 .f32 := V m c main_arg2
def ws (c : Dev nD) : FVec Ideal S1024x8192 .bf16 := V m c main_arg3

theorem idx : ∀ t : Fin cfg0.N, win0_0.index t = ![t.val / 16 % 16, t.val / 8 % 2, 0] ∧ win0_1.index t = ![0, 0]
    ∧ win0_2.index t = ![t.val / 16 % 16, 0, 0] ∧ win0_3.index t = ![0, t.val % 8]
    ∧ win0_4.index t = ![t.val / 16 % 16, t.val / 8 % 2, t.val % 8] :=
  (by decide +kernel : ∀ t : Fin grid0.N, _)

theorem blk_x (c : Dev nD) (t : Fin cfg0.N) (r q : Fin 1024) : iblk m c 0 t (ix3 0 r q) = xs m c (ix3 (smp t) (row (til t) r) q) := by
  obtain ⟨i0, -, -, -, -⟩ := idx t
  blk_ext [iblk, xs, i0, smp, row, til]

theorem blk_g (c : Dev nD) (t : Fin cfg0.N) (q : Fin 1024) : iblk m c 1 t (ix2 0 q) = gs m c (ix2 0 q) := by
  obtain ⟨-, i1, -, -, -⟩ := idx t
  blk_ext [iblk, gs, i1]

theorem blk_m (c : Dev nD) (t : Fin cfg0.N) (e : Fin 6) (q : Fin 1024) : iblk m c 2 t (ix3 0 e q) = ms m c (ix3 (smp t) e q) := by
  obtain ⟨-, -, i2, -, -⟩ := idx t
  blk_ext [iblk, ms, i2, smp]

theorem blk_w (c : Dev nD) (t : Fin cfg0.N) (q l : Fin 1024) : iblk m c 3 t (ix2 q l) = ws m c (ix2 q (lane (colt t) l)) := by
  obtain ⟨-, -, -, i3, -⟩ := idx t
  blk_ext [iblk, ws, i3, lane, colt]

/-- The normed, scaled and shifted entry `q` of a token: its row `x`, the norm's weight, the scale and the shift there. -/
def hid (x : Fin 1024 → EReal) (g s h : EReal) (q : Fin 1024) : EReal :=
  x q * Ideal.rsqrt (Ideal.div (∑ k : Fin 1024, x k * x k) (Ideal.ofBits FTy.f32 1149239296#32) + Ideal.ofBits FTy.f32 897988541#32)
    * g * (1 + s) + h

/-- The hidden entry `q` of token `a` of sample `b`. -/
def hidden (c : Dev nD) (b : Fin 16) (a : Fin 2048) (q : Fin 1024) : EReal :=
  hid (fun k => xs m c (ix3 b a k)) (gs m c (ix2 0 q)) (ms m c (ix3 b 1 q)) (ms m c (ix3 b 0 q)) q

/-- The result. -/
def out (c : Dev nD) (b : Fin 16) (a : Fin 2048) (l : Fin 8192) : EReal := ∑ q : Fin 1024, hidden m c b a q * ws m c (ix2 q l)

/-- What the first column tile of a token tile stores in the scratch. -/
def fresh (c : Dev nD) (t : Fin cfg0.N) : Vec Ideal S1024x1024 .bf16 :=
  k0_pay1 (iblk m c 0 t) (iblk m c 1 t)
    (View.ld (iblk m c 2 t) (Rect.unit ![0, 1, 0] ![1, 1, 1024] inb_S1x6x1024_S1x1x1024_0_1_0))
    (View.ld (iblk m c 2 t) (Rect.unit ![0, 0, 0] ![1, 1, 1024] inb_S1x6x1024_S1x1x1024_0_0_0))

theorem ld1 (c : Dev nD) (t : Fin cfg0.N) (q : Fin 1024) :
    View.ld (iblk m c 2 t) (Rect.unit ![0, 1, 0] ![1, 1, 1024] inb_S1x6x1024_S1x1x1024_0_1_0) (ix3 0 0 q) = ms m c (ix3 (smp t) 1 q) := by
  refine Eq.trans ?_ (blk_m m c t 1 q)
  refine View.ld_unit_apply_of _ _ _ _ _ _ fun a => ?_
  fin_cases a
  · rfl
  · rfl
  · exact (Nat.zero_add q.val).symm

theorem ld0 (c : Dev nD) (t : Fin cfg0.N) (q : Fin 1024) :
    View.ld (iblk m c 2 t) (Rect.unit ![0, 0, 0] ![1, 1, 1024] inb_S1x6x1024_S1x1x1024_0_0_0) (ix3 0 0 q) = ms m c (ix3 (smp t) 0 q) := by
  refine Eq.trans ?_ (blk_m m c t 0 q)
  refine View.ld_unit_apply_of _ _ _ _ _ _ fun a => ?_
  fin_cases a
  · rfl
  · rfl
  · exact (Nat.zero_add q.val).symm

theorem fresh_at (c : Dev nD) (t : Fin cfg0.N) (r q : Fin 1024) : fresh m c t (ix2 r q) = hidden m c (smp t) (row (til t) r) q := by
  rw [fresh, pay1_at, ld1, ld0, blk_g, blk_x]
  simp only [blk_x]
  rfl

theorem outA (c : Dev nD) (t : Fin cfg0.N) (h0 : t.val % 8 = 0) :
    outsAt0 m c t.val t.isLt = (k0_pay2 (fresh m c t) (iblk m c 3 t), fresh m c t) := by
  rw [outsAt0_A m c t h0]
  refine congrArg₂ Prod.mk ?_ ?_
  · frame_out
    rfl
  · frame_out
    rfl

theorem outB (c : Dev nD) (t : Fin cfg0.N) (h0 : ¬ t.val % 8 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h0]
  refine congrArg₂ Prod.mk ?_ ?_
  · frame_out
    rw [(Memref.isWhole_whole cc0_scratch0).read_unread]
  · rfl

/-- The scratch holds the tile's hidden rows at every point of the tile. -/
theorem scratch_at (c : Dev nD) : ∀ (n : ℕ) (hn : n < cfg0.N) (r q : Fin 1024),
    (outsAt0 m c n hn).2 (ix2 r q) = hidden m c (smp ⟨n, hn⟩) (row (til ⟨n, hn⟩) r) q := by
  intro n
  induction n with
  | zero => intro hn r q; rw [outA m c ⟨0, hn⟩ rfl]; exact fresh_at m c ⟨0, hn⟩ r q
  | succ n ih =>
    intro hn r q
    by_cases h0 : (n + 1) % 8 = 0
    · rw [outA m c ⟨n + 1, hn⟩ h0]; exact fresh_at m c ⟨n + 1, hn⟩ r q
    · rw [outB m c ⟨n + 1, hn⟩ h0]
      refine (ih (Nat.lt_of_succ_lt hn) r q).trans ?_
      have e1 : smp ⟨n, Nat.lt_of_succ_lt hn⟩ = smp ⟨n + 1, hn⟩ := Fin.ext (by show n / 16 % 16 = (n + 1) / 16 % 16; omega)
      have e2 : til ⟨n, Nat.lt_of_succ_lt hn⟩ = til ⟨n + 1, hn⟩ := Fin.ext (by show n / 8 % 2 = (n + 1) / 8 % 2; omega)
      rw [e1, e2]

/-- Every point's block is the product of its rows and columns. -/
theorem block_at (c : Dev nD) (t : Fin cfg0.N) (r l : Fin 1024) :
    (outsAt0 m c t.val t.isLt).1 (ix3 0 r l) = out m c (smp t) (row (til t) r) (lane (colt t) l) := by
  have hs := scratch_at m c t.val t.isLt
  by_cases h0 : t.val % 8 = 0
  · rw [outA m c t h0] at hs ⊢
    refine (pay2_at _ _ r l).trans ?_
    exact Finset.sum_congr rfl fun q _ => congrArg₂ (· * ·) (hs r q) (blk_w m c t q l)
  · rw [outB m c t h0] at hs ⊢
    refine (pay2_at _ _ r l).trans ?_
    exact Finset.sum_congr rfl fun q _ => congrArg₂ (· * ·) (hs r q) (blk_w m c t q l)

/-- The result array. -/
def result (c : Dev nD) : main_v1.ty.Idx → Elt Ideal main_v1.ty.elt := fun i => out m c (i 0) (i 1) (i 2)

/-- The blocks make up the result. -/
theorem array_eq (c : Dev nD) : (dats m 0 c).arrAt 4 cfg0.N = result m c :=
  (dats m 0 c).arrAt_eq_of_covers 4 _ (by decide +kernel) fun t ht y => by
    obtain ⟨-, -, -, -, i4⟩ := idx t
    show (dats m 0 c).after 4 t y = _
    rw [after0_4]
    have ey : y = ix3 (0 : Fin 1) (y 1) (y 2) := by
      funext k; match k with
        | ⟨0, _⟩ => exact Fin.ext (Nat.lt_one_iff.mp (y 0).isLt)
        | ⟨1, _⟩ => rfl
        | ⟨2, _⟩ => rfl
    rw [ey]
    refine (block_at m c t (y 1) (y 2)).trans ?_
    show result m c (ix3 (smp t) (row (til t) (y 1)) (lane (colt t) (y 2))) = _
    blk_ext [i4, smp, row, til, lane, colt]

end Cert.Kernel3Ideal.Proj
-- ==== Proof.Proj.Final.lean ====
module

public import proofs.«01_k».proof.Proof.Proj.Out
public import proofs.«01_k».proof.Proof.Gen.Reference3Ideal.Read

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL.Sem
open Cert.Reference3Ideal.Read

variable (m : (ℓ : Loc nD τ sig) → Buf (Elt Ideal) ℓ)

set_option maxHeartbeats 1000000 in
/-- The reference's result at an index. -/
theorem ref_at (x0 : FVec Ideal S16x2048x1024 .f32) (x1 : FVec Ideal S1024 .f32) (x2 : FVec Ideal S16x6x1024 .f32)
    (x3 : FVec Ideal S1024x8192 .bf16) (b : Fin 16) (a : Fin 2048) (l : Fin 8192) :
    val_main_v23 (F := Ideal) x0 x1 x2 x3 (ix3 b a l)
      = ∑ q : Fin 1024, hid (fun k => x0 (ix3 b a k)) (x1 (ix1 q)) (x2 (ix3 b 1 q)) (x2 (ix3 b 0 q)) q * x3 (ix2 q l) := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, hid]

/-- The arguments of the kernel's program, at their shapes. -/
def a0 (c : Dev nD) : FVec Ideal S16x2048x1024 .f32 := m ((c.tc : Thread nD τ).loc main_arg0)
def a1 (c : Dev nD) : FVec Ideal S1024 .f32 := m ((c.tc : Thread nD τ).loc main_arg1)
def a2 (c : Dev nD) : FVec Ideal S16x6x1024 .f32 := m ((c.tc : Thread nD τ).loc main_arg2)
def a3 (c : Dev nD) : FVec Ideal S1024x8192 .bf16 := m ((c.tc : Thread nD τ).loc main_arg3)

theorem xs_eq (c : Dev nD) : xs m c = a0 m c := V_main_arg0 m c
theorem ms_eq (c : Dev nD) : ms m c = a2 m c := V_main_arg2 m c
theorem ws_eq (c : Dev nD) : ws m c = a3 m c := V_main_arg3 m c

theorem gs_at (c : Dev nD) (q : Fin 1024) : gs m c (ix2 0 q) = a1 m c (ix1 q) := by
  show V m c main_v0 (ix2 0 q) = _
  entry_read
  pointwise
  rfl

/-- The kernel's result at an index, over its arguments. -/
theorem out_eq (c : Dev nD) (b : Fin 16) (a : Fin 2048) (l : Fin 8192) :
    out m c b a l = ∑ q : Fin 1024, hid (fun k => a0 m c (ix3 b a k)) (a1 m c (ix1 q)) (a2 m c (ix3 b 1 q)) (a2 m c (ix3 b 0 q)) q
      * a3 m c (ix2 q l) := by
  rw [out, ws_eq]
  refine Finset.sum_congr rfl fun q _ => ?_
  rw [hidden, xs_eq, ms_eq, gs_at]

/-- The kernel's result array is the reference's. -/
theorem result_eq (c : Dev nD) : result m c = val_main_v23 (F := Ideal) (a0 m c) (a1 m c) (a2 m c) (a3 m c) := by
  funext i
  have e : i = ix3 (i 0) (i 1) (i 2) := by
    funext k; match k with
      | ⟨0, _⟩ => rfl
      | ⟨1, _⟩ => rfl
      | ⟨2, _⟩ => rfl
  rw [e]
  refine Eq.trans ?_ (ref_at _ _ _ _ (i 0) (i 1) (i 2)).symm
  exact out_eq m c (i 0) (i 1) (i 2)

end Cert.Kernel3Ideal.Proj
-- ==== Proof.Merge.Tile.lean ====
module

public import proofs.«01_k».proof.Proof.Gen.Kernel4Ideal.Frame
public import Idealize.ShloMosaic.Lib.Pointwise
public import Idealize.ShloMosaic.Lib.Pipeline.ValueKit

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL.Sem

/-- The lanes of a pair's first head. -/
def lo : IVec S512x128 1 := cmpi .slt (iota .tc S512x128 32 [1] iota_S512x128_d1_w32) (broadcast S512x128 64#32)

theorem lo_at (r : Fin 512) (d : Fin 128) : lo (ix2 r d) = BitVec.ofBool (decide (d.val < 64)) := by
  have h : ∀ d : Fin 128, IntOp.cmpi CmpIPredicate.slt (BitVec.ofNat 32 d.val) 64#32 = BitVec.ofBool (decide (d.val < 64)) := by decide +kernel
  rw [← h]
  pointwise [lo]

def zeros : FVec Ideal S512x128 .f32 := broadcast S512x128 (Scalar.ofBits .f32 0x00000000#32)

/-- A row summed over its lanes, the same in every lane. -/
def rowSum (x : FVec Ideal S512x128 .f32) : FVec Ideal S512x128 .f32 :=
  broadcastTo S512x128 (shapeCast S512x1 (shapeCast S512x1 (multiReduction .add [1] S512 x 0x00000000#32 reduces_S512x128_S512 (.inl rfl) rfl)
    shapeCasts_S512_S512x1) shapeCasts_S512x1_S512x1) broadcasts_S512x1_S512x128

/-- A pair of heads, each summed over its own lanes. -/
def pair (x : FVec Ideal S512x128 .f32) : FVec Ideal S512x128 .f32 := select lo (rowSum (select lo x zeros)) (rowSum (select lo zeros x))

theorem rowSum_at (x : FVec Ideal S512x128 .f32) (r : Fin 512) (d : Fin 128) : rowSum x (ix2 r d) = ∑ k : Fin 128, x (ix2 r k) := by
  pointwise [rowSum]

/-- The head of a lane: its lanes. -/
def half (d : Fin 128) (n : Fin 64) : Fin 128 := ⟨d.val / 64 * 64 + n.val, by omega⟩

theorem sel_at (c : IVec S512x128 1) (x y : FVec Ideal S512x128 .f32) (i : S512x128.Idx) : select c x y i = Scalar.select (c i) (x i) (y i) := rfl

theorem pair_at (x : FVec Ideal S512x128 .f32) (r : Fin 512) (d : Fin 128) : pair x (ix2 r d) = ∑ n : Fin 64, x (ix2 r (half d n)) := by
  have hz : ∀ k, zeros (ix2 r k) = 0 := fun k => by pointwise [zeros]
  have hs : ∀ (p : Prop) [Decidable p] (a b : EReal), Scalar.select (BitVec.ofBool (decide p)) a b = if p then a else b := fun p _ a b => by
    by_cases h : p
    · rw [if_pos h, decide_eq_true h]; rfl
    · rw [if_neg h, decide_eq_false h]; rfl
  rw [pair, sel_at, rowSum_at, rowSum_at, lo_at, hs]
  simp only [sel_at, lo_at, hz, hs]
  have e : ∀ f : Fin 128 → EReal, ∑ k, f k = ∑ n : Fin 64, f ⟨n.val, by omega⟩ + ∑ n : Fin 64, f ⟨64 + n.val, by omega⟩ :=
    fun f => Fin.sum_univ_add (a := 64) (b := 64) f
  have l1 : ∀ n : Fin 64, n.val < 64 := fun n => n.isLt
  have l2 : ∀ n : Fin 64, ¬ 64 + n.val < 64 := fun n => by omega
  by_cases h : d.val < 64
  · rw [if_pos h, e]
    simp only [l1, l2, if_true, if_false, Finset.sum_const_zero, add_zero]
    refine Finset.sum_congr rfl fun n _ => congrArg (fun k => x (ix2 r k)) (Fin.ext ?_)
    show n.val = d.val / 64 * 64 + n.val
    omega
  · rw [if_neg h, e]
    simp only [l1, l2, if_true, if_false, Finset.sum_const_zero, zero_add]
    refine Finset.sum_congr rfl fun n _ => congrArg (fun k => x (ix2 r k)) (Fin.ext ?_)
    show 64 + n.val = d.val / 64 * 64 + n.val
    omega

/-- A quarter of the lanes: one pair of scan heads, or one matrix-memory head. -/
def piece (n : Fin 4) (v : FVec Ideal S512x512 .f32) : FVec Ideal S512x128 .f32 :=
  match n with
  | ⟨0, _⟩ => extractStridedSlice S512x128 ![0, 0] v slices_S512x512_o0_0_S512x128
  | ⟨1, _⟩ => extractStridedSlice S512x128 ![0, 128] v slices_S512x512_o0_128_S512x128
  | ⟨2, _⟩ => extractStridedSlice S512x128 ![0, 256] v slices_S512x512_o0_256_S512x128
  | ⟨3, _⟩ => extractStridedSlice S512x128 ![0, 384] v slices_S512x512_o0_384_S512x128

def lane (n : Fin 4) (d : Fin 128) : Fin 512 := ⟨n.val * 128 + d.val, by omega⟩

theorem piece_at (n : Fin 4) (v : FVec Ideal S512x512 .f32) (r : Fin 512) (d : Fin 128) : piece n v (ix2 r d) = v (ix2 r (lane n d)) := by
  match n with
  | ⟨0, _⟩ => pointwise [piece, lane]
  | ⟨1, _⟩ => pointwise [piece, lane]
  | ⟨2, _⟩ => pointwise [piece, lane]
  | ⟨3, _⟩ => pointwise [piece, lane]

/-- Four quarters side by side. -/
def beside (f : Fin 4 → FVec Ideal S512x128 .f32) : FVec Ideal S512x512 .f32 :=
  concatenate S512x512 1 [⟨S512x128, f ⟨0, by omega⟩⟩, ⟨S512x128, f ⟨1, by omega⟩⟩, ⟨S512x128, f ⟨2, by omega⟩⟩, ⟨S512x128, f ⟨3, by omega⟩⟩]
    concatenates_S512x128_S512x128_S512x128_S512x128_S512x512_d1

def qtr (l : Fin 512) : Fin 4 := ⟨l.val / 128, by omega⟩
def sub (l : Fin 512) : Fin 128 := ⟨l.val % 128, by omega⟩

theorem beside_at (f : Fin 4 → FVec Ideal S512x128 .f32) (r l : Fin 512) : beside f (ix2 r l) = f (qtr l) (ix2 r (sub l)) := by
  refine concatenate_ofFn_apply (1 : Fin S512x512.rank) f concatenates_S512x128_S512x128_S512x128_S512x128_S512x512_d1 rfl 128 rfl (ix2 r l) (qtr l) rfl
    (ix2 r (sub l)) rfl fun b hb => ?_
  match b with
  | ⟨0, _⟩ => rfl
  | ⟨1, _⟩ => exact absurd rfl hb

/-- The lanes of a lane's scan head, and of its matrix-memory head. -/
def head (l : Fin 512) (n : Fin 64) : Fin 512 := ⟨l.val / 64 * 64 + n.val, by omega⟩
def quad (l : Fin 512) (n : Fin 128) : Fin 512 := ⟨l.val / 128 * 128 + n.val, by omega⟩

/-- The sums over heads. -/
def sums (v : FVec Ideal S512x512 .f32) : FVec Ideal S512x512 .f32 := beside fun n => pair (piece n v)

theorem sums_at (v : FVec Ideal S512x512 .f32) (r l : Fin 512) : sums v (ix2 r l) = ∑ n : Fin 64, v (ix2 r (head l n)) := by
  rw [sums, beside_at, pair_at]
  refine Finset.sum_congr rfl fun n _ => (piece_at _ _ _ _).trans (congrArg (fun k => v (ix2 r k)) (Fin.ext ?_))
  show l.val / 128 * 128 + (l.val % 128 / 64 * 64 + n.val) = l.val / 64 * 64 + n.val
  omega

/-- A matrix-memory head normed. -/
def nrm (x : FVec Ideal S512x128 .f32) : FVec Ideal S512x128 .f32 :=
  mulf x (broadcastTo S512x128 (rsqrt (addf (divf (shapeCast S512x1 (multiReduction .add [1] S512 (mulf x x) 0x00000000#32 reduces_S512x128_S512
    (.inl rfl) rfl) shapeCasts_S512_S512x1) (broadcast S512x1 (Scalar.ofBits .f32 0x43000000#32))) (broadcast S512x1 (Scalar.ofBits .f32 0x358637BD#32))))
    broadcasts_S512x1_S512x128)

theorem nrm_at (x : FVec Ideal S512x128 .f32) (r : Fin 512) (d : Fin 128) : nrm x (ix2 r d)
    = x (ix2 r d) * Ideal.rsqrt (Ideal.div (∑ k : Fin 128, x (ix2 r k) * x (ix2 r k)) (Ideal.ofBits FTy.f32 0x43000000#32)
      + Ideal.ofBits FTy.f32 0x358637BD#32) := by
  pointwise [nrm]

def norms (v : FVec Ideal S512x512 .f32) : FVec Ideal S512x512 .f32 := beside fun n => nrm (piece n v)

theorem norms_at (v : FVec Ideal S512x512 .f32) (r l : Fin 512) : norms v (ix2 r l)
    = v (ix2 r l) * Ideal.rsqrt (Ideal.div (∑ k : Fin 128, v (ix2 r (quad l k)) * v (ix2 r (quad l k))) (Ideal.ofBits FTy.f32 0x43000000#32)
      + Ideal.ofBits FTy.f32 0x358637BD#32) := by
  rw [norms, beside_at, nrm_at]
  simp only [piece_at]
  have e : lane (qtr l) (sub l) = l := Fin.ext (by show l.val / 128 * 128 + l.val % 128 = l.val; omega)
  rw [e]
  rfl

/-- The scan's output less its head's mean. -/
def cen (v : FVec Ideal S512x512 .f32) : FVec Ideal S512x512 .f32 :=
  subf v (mulf (sums v) (broadcast S512x512 (Scalar.ofBits .f32 0x3C800000#32)))

theorem pay18_eq (v : FVec Ideal S512x512 .f32) :
    k0_pay18 v (k0_pay12 (iota .tc S512x128 32 [1] iota_S512x128_d1_w32)) (k0_pay13 v (iota .tc S512x128 32 [1] iota_S512x128_d1_w32))
      (k0_pay14 v (iota .tc S512x128 32 [1] iota_S512x128_d1_w32)) (k0_pay15 v (iota .tc S512x128 32 [1] iota_S512x128_d1_w32))
      (k0_pay16 v) k0_pay17 = cen v := rfl

/-- The scan's output normed per head. -/
def yns (lg lb : FVec Ideal S1x512 .f32) (v : FVec Ideal S512x512 .f32) : FVec Ideal S512x512 .f32 :=
  addf (mulf (mulf (cen v) (rsqrt (addf (mulf (sums (mulf (cen v) (cen v))) (broadcast S512x512 (Scalar.ofBits .f32 0x3C800000#32)))
    (broadcast S512x512 (Scalar.ofBits .f32 0x3A27C5AC#32))))) (broadcastTo S512x512 lg broadcasts_S1x512_S512x512))
    (broadcastTo S512x512 lb broadcasts_S1x512_S512x512)

theorem pay25_eq (lg lb : FVec Ideal S1x512 .f32) (v : FVec Ideal S512x512 .f32) (m : IVec S512x128 1) (p q r s t : FVec Ideal S512x128 .f32)
    (h : k0_pay18 v m p q r s t = cen v) :
    k0_pay25 lg lb (k0_pay18 v m p q r s t) (k0_pay19 v m p q r s t) k0_pay20 (k0_pay21 v m p q r s t) (k0_pay23 v m p q r s t)
      (k0_pay24 v m p q r s t) = yns lg lb v := by
  unfold k0_pay23 k0_pay24 k0_pay21 k0_pay22 k0_pay19
  rw [h]
  rfl

/-- The readout of the scan: normed output, bonus and gate. -/
def yas (g yn v w : FVec Ideal S512x512 .f32) : FVec Ideal S512x512 .f32 := mulf (addf yn (mulf (sums w) v)) g

theorem pay34_eq (v g yn r k : FVec Ideal S512x512 .f32) (rk : FVec Ideal S1x512 .f32) :
    k0_pay34 v g yn (k0_pay27 r rk k) k0_pay28 (k0_pay29 r rk k) (k0_pay30 r rk k) (k0_pay32 r rk k) (k0_pay33 r rk k)
      = yas g yn v (k0_pay27 r rk k) := rfl

/-- The readout of the matrix memory. -/
def ycs (h o : FVec Ideal S512x512 .f32) (ng : FVec Ideal S1x512 .f32) : FVec Ideal S512x512 .f32 :=
  mulf (mulf (norms h) (broadcastTo S512x512 ng broadcasts_S1x512_S512x512)) (logistic o)

theorem pay41_eq (h : Vec Ideal S1x512x512 .f32) (o : FVec Ideal S512x512 .f32) (ng : FVec Ideal S1x512 .f32) :
    k0_pay41 (k0_pay35 h) o ng (k0_pay38 h) (k0_pay39 h) (k0_pay40 h) = ycs (k0_pay35 h) o ng := rfl

/-- One token's sum over a lane's head. -/
def hsum (f : Fin 512 → EReal) (l : Fin 512) : EReal := ∑ n : Fin 64, f (head l n)

def cent (y : Fin 512 → EReal) (l : Fin 512) : EReal := y l - hsum y l * Ideal.ofBits FTy.f32 0x3C800000#32

def yn (y lg lb : Fin 512 → EReal) (l : Fin 512) : EReal :=
  cent y l * Ideal.rsqrt (hsum (fun q => cent y q * cent y q) l * Ideal.ofBits FTy.f32 0x3C800000#32 + Ideal.ofBits FTy.f32 0x3A27C5AC#32) * lg l + lb l

def bon (r k a0 a1 ka rk : Fin 512 → EReal) (q : Fin 512) : EReal :=
  r q * (k q * (Ideal.ofBits FTy.f32 0x40000000#32 + (a0 q + a1 q - Ideal.ofBits FTy.f32 0x40000000#32) * ka q)) * rk q

def ya (y r k v g a0 a1 ka rk lg lb : Fin 512 → EReal) (l : Fin 512) : EReal :=
  (yn y lg lb l + hsum (bon r k a0 a1 ka rk) l * v l) * g l

def yc (h o ng : Fin 512 → EReal) (l : Fin 512) : EReal :=
  h l * Ideal.rsqrt (Ideal.div (∑ n : Fin 128, h (quad l n) * h (quad l n)) (Ideal.ofBits FTy.f32 0x43000000#32) + Ideal.ofBits FTy.f32 0x358637BD#32)
    * ng l * Ideal.logistic (o l)

theorem cen_at (v : FVec Ideal S512x512 .f32) (r l : Fin 512) : cen v (ix2 r l) = cent (fun q => v (ix2 r q)) l := by
  show v (ix2 r l) - sums v (ix2 r l) * _ = _
  rw [sums_at]
  rfl

theorem row_bc (x : FVec Ideal S1x512 .f32) (r l : Fin 512) : broadcastTo S512x512 x broadcasts_S1x512_S512x512 (ix2 r l) = x (ix2 0 l) := by
  pointwise

theorem yns_at (lg lb : FVec Ideal S1x512 .f32) (v : FVec Ideal S512x512 .f32) (r l : Fin 512) :
    yns lg lb v (ix2 r l) = yn (fun q => v (ix2 r q)) (fun q => lg (ix2 0 q)) (fun q => lb (ix2 0 q)) l := by
  show cen v (ix2 r l) * Ideal.rsqrt (sums (mulf (cen v) (cen v)) (ix2 r l) * _ + _) * broadcastTo S512x512 lg broadcasts_S1x512_S512x512 (ix2 r l)
    + broadcastTo S512x512 lb broadcasts_S1x512_S512x512 (ix2 r l) = _
  rw [row_bc, row_bc, sums_at, cen_at]
  have e : ∀ q, mulf (cen v) (cen v) (ix2 r q) = cent (fun q => v (ix2 r q)) q * cent (fun q => v (ix2 r q)) q := fun q => by
    show cen v (ix2 r q) * cen v (ix2 r q) = _
    rw [cen_at]
  simp only [e]
  rfl

theorem bon_at (r k a0 a1 : FVec Ideal S512x512 .f32) (ka rk : FVec Ideal S1x512 .f32) (i q : Fin 512) :
    k0_pay27 r rk (k0_pay26 k a0 a1 ka) (ix2 i q)
      = bon (fun q => r (ix2 i q)) (fun q => k (ix2 i q)) (fun q => a0 (ix2 i q)) (fun q => a1 (ix2 i q)) (fun q => ka (ix2 0 q)) (fun q => rk (ix2 0 q)) q := by
  show r (ix2 i q) * (k (ix2 i q) * (_ + (a0 (ix2 i q) + a1 (ix2 i q) - _) * broadcastTo S512x512 ka broadcasts_S1x512_S512x512 (ix2 i q)))
    * broadcastTo S512x512 rk broadcasts_S1x512_S512x512 (ix2 i q) = _
  rw [row_bc, row_bc]
  rfl

theorem ycs_at (h o : FVec Ideal S512x512 .f32) (ng : FVec Ideal S1x512 .f32) (r l : Fin 512) :
    ycs h o ng (ix2 r l) = yc (fun q => h (ix2 r q)) (fun q => o (ix2 r q)) (fun q => ng (ix2 0 q)) l := by
  show norms h (ix2 r l) * broadcastTo S512x512 ng broadcasts_S1x512_S512x512 (ix2 r l) * _ = _
  rw [row_bc, norms_at]
  rfl

/-- The merge of three readouts, and the residual. -/
theorem pay44_at (yc yb ya : FVec Ideal S512x512 .f32) (ga wa gb wb gc wc : Vec Ideal S1x512x1024 .bf16) (x : Vec Ideal S1x512x1024 .f32)
    (md : Vec Ideal S1x1x1024 .f32) (wo : Vec Ideal S1024x1024 .bf16) (r : Fin 512) (e : Fin 1024) :
    k0_pay44 yc yb (k0_pay43 ya ga wa) gb wb gc wc x md wo (ix3 0 r e)
      = x (ix3 0 r e) + md (ix3 0 0 e) * ∑ q : Fin 1024, (Ideal.logistic (ga (ix3 0 r q)) * ∑ j : Fin 512, ya (ix2 r j) * wa (ix3 0 j q)
        + Ideal.logistic (gb (ix3 0 r q)) * ∑ j : Fin 512, yb (ix2 r j) * wb (ix3 0 j q)
        + Ideal.logistic (gc (ix3 0 r q)) * ∑ j : Fin 512, yc (ix2 r j) * wc (ix3 0 j q)) * wo (ix2 q e) := by
  pointwise [k0_pay44, k0_pay43]

end Cert.Kernel4Ideal.Merge
-- ==== Proof.Merge.Out.lean ====
module

public import proofs.«01_k».proof.Proof.Merge.Tile
public import proofs.«01_k».proof.Proof.Gen.Kernel4Ideal.Value

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL.Sem
open Idealize.ShloMosaic.Pipeline (Dat Cfg Window)

/-- The body's result, its readouts named. -/
theorem out0_eq (x0 : Vec Ideal S1x512x512 .f32) (x1 x2 x3 x4 x5 x6 : Vec Ideal S1x512x512 .bf16) (x7 x8 : Vec Ideal S1x512x512 .f32)
    (x9 : Vec Ideal S1x512x512 .bf16) (x10 x11 x12 : Vec Ideal S1x512x1024 .bf16) (x13 : Vec Ideal S1x512x1024 .f32) (x14 : Vec Ideal S1x6x1024 .f32)
    (x15 x16 x17 x18 x19 : Vec Ideal S1x512 .f32) (x20 : Vec Ideal S3x512x1024 .bf16) (x21 : Vec Ideal S1024x1024 .bf16) :
    out0_22 x0 x1 x2 x3 x4 x5 x6 x7 x8 x9 x10 x11 x12 x13 x14 x15 x16 x17 x18 x19 x20 x21
      = k0_pay44 (ycs (k0_pay35 x8) (k0_pay36 x9) (k0_pay37 x19)) (k0_pay42 x7)
        (k0_pay43 (yas (k0_pay5 x4) (yns (k0_pay10 x17) (k0_pay11 x18) (k0_pay1 x0)) (k0_pay4 x3)
          (k0_pay27 (k0_pay2 x1) (k0_pay9 x16) (k0_pay26 (k0_pay3 x2) (k0_pay6 x5) (k0_pay7 x6) (k0_pay8 x15)))) x10 (View.ld x20 r0_3))
        x11 (View.ld x20 r0_4) x12 (View.ld x20 r0_5) x13 (View.ld x14 r0_6) x21 := by
  unfold_out out0_22
  frame_out
  rw [pay41_eq, pay34_eq, pay25_eq _ _ _ _ _ _ _ _ _ (pay18_eq _)]

theorem p1 (x : Vec Ideal S1x512x512 .f32) (r q : Fin 512) : k0_pay1 x (ix2 r q) = x (ix3 0 r q) := by
  pointwise [k0_pay1]

theorem p2 (x : Vec Ideal S1x512x512 .bf16) (r q : Fin 512) : k0_pay2 x (ix2 r q) = x (ix3 0 r q) := by
  pointwise [k0_pay2]

theorem p3 (x : Vec Ideal S1x512x512 .bf16) (r q : Fin 512) : k0_pay3 x (ix2 r q) = x (ix3 0 r q) := by
  pointwise [k0_pay3]

theorem p4 (x : Vec Ideal S1x512x512 .bf16) (r q : Fin 512) : k0_pay4 x (ix2 r q) = x (ix3 0 r q) := by
  pointwise [k0_pay4]

theorem p5 (x : Vec Ideal S1x512x512 .bf16) (r q : Fin 512) : k0_pay5 x (ix2 r q) = x (ix3 0 r q) := by
  pointwise [k0_pay5]

theorem p6 (x : Vec Ideal S1x512x512 .bf16) (r q : Fin 512) : k0_pay6 x (ix2 r q) = x (ix3 0 r q) := by
  pointwise [k0_pay6]

theorem p7 (x : Vec Ideal S1x512x512 .bf16) (r q : Fin 512) : k0_pay7 x (ix2 r q) = x (ix3 0 r q) := by
  pointwise [k0_pay7]

theorem p35 (x : Vec Ideal S1x512x512 .f32) (r q : Fin 512) : k0_pay35 x (ix2 r q) = x (ix3 0 r q) := by
  pointwise [k0_pay35]

theorem p36 (x : Vec Ideal S1x512x512 .bf16) (r q : Fin 512) : k0_pay36 x (ix2 r q) = x (ix3 0 r q) := by
  pointwise [k0_pay36]

theorem p42 (x : Vec Ideal S1x512x512 .f32) (r q : Fin 512) : k0_pay42 x (ix2 r q) = x (ix3 0 r q) := by
  pointwise [k0_pay42]

theorem p8 (x : Vec Ideal S1x512 .f32) (q : Fin 512) : k0_pay8 x (ix2 0 q) = x (ix2 0 q) := by
  pointwise [k0_pay8]

theorem p9 (x : Vec Ideal S1x512 .f32) (q : Fin 512) : k0_pay9 x (ix2 0 q) = x (ix2 0 q) := by
  pointwise [k0_pay9]

theorem p10 (x : Vec Ideal S1x512 .f32) (q : Fin 512) : k0_pay10 x (ix2 0 q) = x (ix2 0 q) := by
  pointwise [k0_pay10]

theorem p11 (x : Vec Ideal S1x512 .f32) (q : Fin 512) : k0_pay11 x (ix2 0 q) = x (ix2 0 q) := by
  pointwise [k0_pay11]

theorem p37 (x : Vec Ideal S1x512 .f32) (q : Fin 512) : k0_pay37 x (ix2 0 q) = x (ix2 0 q) := by
  pointwise [k0_pay37]

/-- A grid point's sample and token tile, and row `r` of token tile `i`. -/
def smp (t : Fin cfg0.N) : Fin 16 := ⟨t.val / 4 % 16, Nat.mod_lt _ (by omega)⟩
def til (t : Fin cfg0.N) : Fin 4 := ⟨t.val % 4, Nat.mod_lt _ (by omega)⟩
def row (i : Fin 4) (r : Fin 512) : Fin 2048 := ⟨i.val * 512 + r.val, by omega⟩

variable (m : (ℓ : Loc nD τ sig) → Buf (Elt Ideal) ℓ)

/-- The windows' arrays as the kernel call finds them. -/
def ay (c : Dev nD) : FVec Ideal S16x2048x512 .f32 := V m c main_arg0
def ar (c : Dev nD) : FVec Ideal S16x2048x512 .bf16 := V m c main_arg1
def ak (c : Dev nD) : FVec Ideal S16x2048x512 .bf16 := V m c main_arg2
def av (c : Dev nD) : FVec Ideal S16x2048x512 .bf16 := V m c main_arg3
def ag (c : Dev nD) : FVec Ideal S16x2048x512 .bf16 := V m c main_arg4
def aa (c : Dev nD) : FVec Ideal S16x2048x512 .bf16 := V m c main_arg5
def ab (c : Dev nD) : FVec Ideal S16x2048x512 .bf16 := V m c main_arg6
def az (c : Dev nD) : FVec Ideal S16x2048x512 .f32 := V m c main_arg7
def ah (c : Dev nD) : FVec Ideal S16x2048x512 .f32 := V m c main_arg8
def ap (c : Dev nD) : FVec Ideal S16x2048x8192 .bf16 := V m c main_arg9
def ax (c : Dev nD) : FVec Ideal S16x2048x1024 .f32 := V m c main_arg10
def am (c : Dev nD) : FVec Ideal S16x6x1024 .f32 := V m c main_arg11
def ka (c : Dev nD) : FVec Ideal S1x512 .f32 := V m c main_v2
def rk (c : Dev nD) : FVec Ideal S1x512 .f32 := V m c main_v3
def lg (c : Dev nD) : FVec Ideal S1x512 .f32 := V m c main_v4
def lb (c : Dev nD) : FVec Ideal S1x512 .f32 := V m c main_v5
def ng (c : Dev nD) : FVec Ideal S1x512 .f32 := V m c main_v6
def wb (c : Dev nD) : FVec Ideal S3x512x1024 .bf16 := V m c main_v0
def wo (c : Dev nD) : FVec Ideal S1024x1024 .bf16 := V m c main_v1

theorem idx0 : ∀ t : Fin cfg0.N, win0_0.index t = ![t.val / 4 % 16, t.val % 4, 0] := (by decide +kernel : ∀ t : Fin grid0.N, _)
theorem idx1 : ∀ t : Fin cfg0.N, win0_1.index t = ![t.val / 4 % 16, t.val % 4, 0] := (by decide +kernel : ∀ t : Fin grid0.N, _)
theorem idx2 : ∀ t : Fin cfg0.N, win0_2.index t = ![t.val / 4 % 16, t.val % 4, 0] := (by decide +kernel : ∀ t : Fin grid0.N, _)
theorem idx3 : ∀ t : Fin cfg0.N, win0_3.index t = ![t.val / 4 % 16, t.val % 4, 0] := (by decide +kernel : ∀ t : Fin grid0.N, _)
theorem idx4 : ∀ t : Fin cfg0.N, win0_4.index t = ![t.val / 4 % 16, t.val % 4, 0] := (by decide +kernel : ∀ t : Fin grid0.N, _)
theorem idx5 : ∀ t : Fin cfg0.N, win0_5.index t = ![t.val / 4 % 16, t.val % 4, 0] := (by decide +kernel : ∀ t : Fin grid0.N, _)
theorem idx6 : ∀ t : Fin cfg0.N, win0_6.index t = ![t.val / 4 % 16, t.val % 4, 0] := (by decide +kernel : ∀ t : Fin grid0.N, _)
theorem idx7 : ∀ t : Fin cfg0.N, win0_7.index t = ![t.val / 4 % 16, t.val % 4, 0] := (by decide +kernel : ∀ t : Fin grid0.N, _)
theorem idx8 : ∀ t : Fin cfg0.N, win0_8.index t = ![t.val / 4 % 16, t.val % 4, 0] := (by decide +kernel : ∀ t : Fin grid0.N, _)
theorem idx9 : ∀ t : Fin cfg0.N, win0_9.index t = ![t.val / 4 % 16, t.val % 4, 4] := (by decide +kernel : ∀ t : Fin grid0.N, _)
theorem idx10 : ∀ t : Fin cfg0.N, win0_10.index t = ![t.val / 4 % 16, t.val % 4, 3] := (by decide +kernel : ∀ t : Fin grid0.N, _)
theorem idx11 : ∀ t : Fin cfg0.N, win0_11.index t = ![t.val / 4 % 16, t.val % 4, 4] := (by decide +kernel : ∀ t : Fin grid0.N, _)
theorem idx12 : ∀ t : Fin cfg0.N, win0_12.index t = ![t.val / 4 % 16, t.val % 4, 5] := (by decide +kernel : ∀ t : Fin grid0.N, _)
theorem idx13 : ∀ t : Fin cfg0.N, win0_13.index t = ![t.val / 4 % 16, t.val % 4, 0] := (by decide +kernel : ∀ t : Fin grid0.N, _)
theorem idx14 : ∀ t : Fin cfg0.N, win0_14.index t = ![t.val / 4 % 16, 0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![t.val / 4 % 16, t.val % 4, 0] := (by decide +kernel : ∀ t : Fin grid0.N, _)

theorem blk0 (c : Dev nD) (t : Fin cfg0.N) (r q : Fin 512) : iblk m c 0 t (ix3 0 r q) = ay m c (ix3 (smp t) (row (til t) r) q) := by
  have i := idx0 t
  blk_ext [iblk, ay, i, smp, row, til]

theorem blk1 (c : Dev nD) (t : Fin cfg0.N) (r q : Fin 512) : iblk m c 1 t (ix3 0 r q) = ar m c (ix3 (smp t) (row (til t) r) q) := by
  have i := idx1 t
  blk_ext [iblk, ar, i, smp, row, til]

theorem blk2 (c : Dev nD) (t : Fin cfg0.N) (r q : Fin 512) : iblk m c 2 t (ix3 0 r q) = ak m c (ix3 (smp t) (row (til t) r) q) := by
  have i := idx2 t
  blk_ext [iblk, ak, i, smp, row, til]

theorem blk3 (c : Dev nD) (t : Fin cfg0.N) (r q : Fin 512) : iblk m c 3 t (ix3 0 r q) = av m c (ix3 (smp t) (row (til t) r) q) := by
  have i := idx3 t
  blk_ext [iblk, av, i, smp, row, til]

theorem blk4 (c : Dev nD) (t : Fin cfg0.N) (r q : Fin 512) : iblk m c 4 t (ix3 0 r q) = ag m c (ix3 (smp t) (row (til t) r) q) := by
  have i := idx4 t
  blk_ext [iblk, ag, i, smp, row, til]

theorem blk5 (c : Dev nD) (t : Fin cfg0.N) (r q : Fin 512) : iblk m c 5 t (ix3 0 r q) = aa m c (ix3 (smp t) (row (til t) r) q) := by
  have i := idx5 t
  blk_ext [iblk, aa, i, smp, row, til]

theorem blk6 (c : Dev nD) (t : Fin cfg0.N) (r q : Fin 512) : iblk m c 6 t (ix3 0 r q) = ab m c (ix3 (smp t) (row (til t) r) q) := by
  have i := idx6 t
  blk_ext [iblk, ab, i, smp, row, til]

theorem blk7 (c : Dev nD) (t : Fin cfg0.N) (r q : Fin 512) : iblk m c 7 t (ix3 0 r q) = az m c (ix3 (smp t) (row (til t) r) q) := by
  have i := idx7 t
  blk_ext [iblk, az, i, smp, row, til]

theorem blk8 (c : Dev nD) (t : Fin cfg0.N) (r q : Fin 512) : iblk m c 8 t (ix3 0 r q) = ah m c (ix3 (smp t) (row (til t) r) q) := by
  have i := idx8 t
  blk_ext [iblk, ah, i, smp, row, til]

theorem blk9 (c : Dev nD) (t : Fin cfg0.N) (r q : Fin 512) :
    iblk m c 9 t (ix3 0 r q) = ap m c (ix3 (smp t) (row (til t) r) ⟨2048 + q.val, by omega⟩) := by
  have i := idx9 t
  blk_ext [iblk, ap, i, smp, row, til]

theorem blk10 (c : Dev nD) (t : Fin cfg0.N) (r : Fin 512) (q : Fin 1024) :
    iblk m c 10 t (ix3 0 r q) = ap m c (ix3 (smp t) (row (til t) r) ⟨3072 + q.val, by omega⟩) := by
  have i := idx10 t
  blk_ext [iblk, ap, i, smp, row, til]

theorem blk11 (c : Dev nD) (t : Fin cfg0.N) (r : Fin 512) (q : Fin 1024) :
    iblk m c 11 t (ix3 0 r q) = ap m c (ix3 (smp t) (row (til t) r) ⟨4096 + q.val, by omega⟩) := by
  have i := idx11 t
  blk_ext [iblk, ap, i, smp, row, til]

theorem blk12 (c : Dev nD) (t : Fin cfg0.N) (r : Fin 512) (q : Fin 1024) :
    iblk m c 12 t (ix3 0 r q) = ap m c (ix3 (smp t) (row (til t) r) ⟨5120 + q.val, by omega⟩) := by
  have i := idx12 t
  blk_ext [iblk, ap, i, smp, row, til]

theorem blk13 (c : Dev nD) (t : Fin cfg0.N) (r : Fin 512) (q : Fin 1024) :
    iblk m c 13 t (ix3 0 r q) = ax m c (ix3 (smp t) (row (til t) r) q) := by
  have i := idx13 t
  blk_ext [iblk, ax, i, smp, row, til]

theorem blk14 (c : Dev nD) (t : Fin cfg0.N) (e : Fin 6) (q : Fin 1024) : iblk m c 14 t (ix3 0 e q) = am m c (ix3 (smp t) e q) := by
  have i := idx14 t
  blk_ext [iblk, am, i, smp]

theorem blk15 (c : Dev nD) (t : Fin cfg0.N) (q : Fin 512) : iblk m c 15 t (ix2 0 q) = ka m c (ix2 0 q) := by
  have i := idx15 t
  blk_ext [iblk, ka, i]

theorem blk16 (c : Dev nD) (t : Fin cfg0.N) (q : Fin 512) : iblk m c 16 t (ix2 0 q) = rk m c (ix2 0 q) := by
  have i := idx16 t
  blk_ext [iblk, rk, i]

theorem blk17 (c : Dev nD) (t : Fin cfg0.N) (q : Fin 512) : iblk m c 17 t (ix2 0 q) = lg m c (ix2 0 q) := by
  have i := idx17 t
  blk_ext [iblk, lg, i]

theorem blk18 (c : Dev nD) (t : Fin cfg0.N) (q : Fin 512) : iblk m c 18 t (ix2 0 q) = lb m c (ix2 0 q) := by
  have i := idx18 t
  blk_ext [iblk, lb, i]

theorem blk19 (c : Dev nD) (t : Fin cfg0.N) (q : Fin 512) : iblk m c 19 t (ix2 0 q) = ng m c (ix2 0 q) := by
  have i := idx19 t
  blk_ext [iblk, ng, i]

theorem blk20 (c : Dev nD) (t : Fin cfg0.N) (d : Fin 3) (j : Fin 512) (q : Fin 1024) : iblk m c 20 t (ix3 d j q) = wb m c (ix3 d j q) := by
  have i := idx20 t
  blk_ext [iblk, wb, i]

theorem blk21 (c : Dev nD) (t : Fin cfg0.N) (q e : Fin 1024) : iblk m c 21 t (ix2 q e) = wo m c (ix2 q e) := by
  have i := idx21 t
  blk_ext [iblk, wo, i]

theorem ldm (c : Dev nD) (t : Fin cfg0.N) (q : Fin 1024) : View.ld (iblk m c 14 t) r0_6 (ix3 0 0 q) = am m c (ix3 (smp t) 2 q) := by
  refine Eq.trans ?_ (blk14 m c t 2 q)
  refine View.ld_unit_apply_of _ _ _ _ _ _ fun a => ?_
  fin_cases a
  · rfl
  · rfl
  · exact (Nat.zero_add q.val).symm

theorem ldw0 (c : Dev nD) (t : Fin cfg0.N) (j : Fin 512) (q : Fin 1024) : View.ld (iblk m c 20 t) r0_3 (ix3 0 j q) = wb m c (ix3 0 j q) := by
  refine Eq.trans ?_ (blk20 m c t 0 j q)
  refine View.ld_unit_apply_of _ _ _ _ _ _ fun a => ?_
  fin_cases a
  · rfl
  · exact (Nat.zero_add j.val).symm
  · exact (Nat.zero_add q.val).symm

theorem ldw1 (c : Dev nD) (t : Fin cfg0.N) (j : Fin 512) (q : Fin 1024) : View.ld (iblk m c 20 t) r0_4 (ix3 0 j q) = wb m c (ix3 1 j q) := by
  refine Eq.trans ?_ (blk20 m c t 1 j q)
  refine View.ld_unit_apply_of _ _ _ _ _ _ fun a => ?_
  fin_cases a
  · rfl
  · exact (Nat.zero_add j.val).symm
  · exact (Nat.zero_add q.val).symm

theorem ldw2 (c : Dev nD) (t : Fin cfg0.N) (j : Fin 512) (q : Fin 1024) : View.ld (iblk m c 20 t) r0_5 (ix3 0 j q) = wb m c (ix3 2 j q) := by
  refine Eq.trans ?_ (blk20 m c t 2 j q)
  refine View.ld_unit_apply_of _ _ _ _ _ _ fun a => ?_
  fin_cases a
  · rfl
  · exact (Nat.zero_add j.val).symm
  · exact (Nat.zero_add q.val).symm

/-- The first readout of token `a` of sample `b`. -/
def yaAt (c : Dev nD) (b : Fin 16) (a : Fin 2048) : Fin 512 → EReal :=
  ya (fun q => ay m c (ix3 b a q)) (fun q => ar m c (ix3 b a q)) (fun q => ak m c (ix3 b a q)) (fun q => av m c (ix3 b a q))
    (fun q => ag m c (ix3 b a q)) (fun q => aa m c (ix3 b a q)) (fun q => ab m c (ix3 b a q)) (fun q => ka m c (ix2 0 q))
    (fun q => rk m c (ix2 0 q)) (fun q => lg m c (ix2 0 q)) (fun q => lb m c (ix2 0 q))

/-- The third. -/
def ycAt (c : Dev nD) (b : Fin 16) (a : Fin 2048) : Fin 512 → EReal :=
  yc (fun q => ah m c (ix3 b a q)) (fun q => ap m c (ix3 b a ⟨2048 + q.val, by omega⟩)) (fun q => ng m c (ix2 0 q))

/-- The result. -/
def out (c : Dev nD) (b : Fin 16) (a : Fin 2048) (e : Fin 1024) : EReal :=
  ax m c (ix3 b a e) + am m c (ix3 b 2 e) * ∑ q : Fin 1024,
    (Ideal.logistic (ap m c (ix3 b a ⟨3072 + q.val, by omega⟩)) * ∑ j : Fin 512, yaAt m c b a j * wb m c (ix3 0 j q)
      + Ideal.logistic (ap m c (ix3 b a ⟨4096 + q.val, by omega⟩)) * ∑ j : Fin 512, az m c (ix3 b a j) * wb m c (ix3 1 j q)
      + Ideal.logistic (ap m c (ix3 b a ⟨5120 + q.val, by omega⟩)) * ∑ j : Fin 512, ycAt m c b a j * wb m c (ix3 2 j q)) * wo m c (ix2 q e)

/-- The first readout's tile. -/
theorem ya_tile (c : Dev nD) (t : Fin cfg0.N) (r l : Fin 512) :
    yas (k0_pay5 (iblk m c 4 t)) (yns (k0_pay10 (iblk m c 17 t)) (k0_pay11 (iblk m c 18 t)) (k0_pay1 (iblk m c 0 t))) (k0_pay4 (iblk m c 3 t))
          (k0_pay27 (k0_pay2 (iblk m c 1 t)) (k0_pay9 (iblk m c 16 t)) (k0_pay26 (k0_pay3 (iblk m c 2 t)) (k0_pay6 (iblk m c 5 t)) (k0_pay7 (iblk m c 6 t)) (k0_pay8 (iblk m c 15 t))))
        (ix2 r l) = yaAt m c (smp t) (row (til t) r) l := by
  show (yns _ _ _ (ix2 r l) + sums _ (ix2 r l) * k0_pay4 (iblk m c 3 t) (ix2 r l)) * k0_pay5 (iblk m c 4 t) (ix2 r l) = _
  rw [yns_at, sums_at, p4, p5, blk3, blk4]
  simp only [bon_at, p1, p2, p3, p6, p7, p8, p9, p10, p11, blk0, blk1, blk2, blk5, blk6, blk15, blk16, blk17, blk18]
  rfl

/-- The third's. -/
theorem yc_tile (c : Dev nD) (t : Fin cfg0.N) (r l : Fin 512) :
    ycs (k0_pay35 (iblk m c 8 t)) (k0_pay36 (iblk m c 9 t)) (k0_pay37 (iblk m c 19 t)) (ix2 r l) = ycAt m c (smp t) (row (til t) r) l := by
  rw [ycs_at]
  simp only [p35, p36, p37, blk8, blk9, blk19]
  rfl

/-- Every point's block. -/
theorem block_at (c : Dev nD) (t : Fin cfg0.N) (r : Fin 512) (e : Fin 1024) :
    (dats m 0 c).after 22 t (ix3 0 r e) = out m c (smp t) (row (til t) r) e := by
  rw [after0_22, out0_eq, pay44_at]
  simp only [ya_tile, yc_tile, p42, blk7, blk10, blk11, blk12, blk13, blk21, ldm, ldw0, ldw1, ldw2]
  rfl

/-- The result array. -/
def result (c : Dev nD) : main_v7.ty.Idx → Elt Ideal main_v7.ty.elt := fun i => out m c (i 0) (i 1) (i 2)

/-- The blocks make up the result. -/
theorem array_eq (c : Dev nD) : (dats m 0 c).arrAt 22 cfg0.N = result m c :=
  (dats m 0 c).arrAt_eq_of_covers 22 _ (by decide +kernel) fun t ht y => by
    have i := idx22 t
    show (dats m 0 c).after 22 t y = _
    have ey : y = ix3 (0 : Fin 1) (y 1) (y 2) := by
      funext k; match k with
        | ⟨0, _⟩ => exact Fin.ext (Nat.lt_one_iff.mp (y 0).isLt)
        | ⟨1, _⟩ => rfl
        | ⟨2, _⟩ => rfl
    rw [ey]
    refine (block_at m c t (y 1) (y 2)).trans ?_
    show result m c (ix3 (smp t) (row (til t) (y 1)) (y 2)) = _
    blk_ext [i, smp, row, til]

end Cert.Kernel4Ideal.Merge
-- ==== Proof.Merge.Ref.lean ====
module

public import proofs.«01_k».proof.Proof.Merge.Tile
public import proofs.«01_k».proof.Proof.Gen.Reference4Ideal.Read

@[expose] public section

set_option maxRecDepth 16384

noncomputable section

namespace Cert.Reference4Ideal.Merge

open Cert.Reference4Ideal Cert.Reference4Ideal.Gen Cert.Reference4Ideal.Read
open Idealize.ShloMosaic Idealize.ShloMosaic.TcCoe Idealize.ShloMosaic.Tactic
open Idealize.SL.Sem
open Cert.Kernel4Ideal.Merge (head quad hsum)

/-- Lane `n` of head `h`. -/
def at64 (h : Fin 8) (n : Fin 64) : Fin 512 := ⟨h.val * 64 + n.val, by omega⟩
def at128 (h : Fin 4) (n : Fin 128) : Fin 512 := ⟨h.val * 128 + n.val, by omega⟩

theorem split64 (x : FVec Ideal S16x2048x512 .f32) (b : Fin 16) (t : Fin 2048) (h : Fin 8) (n : Fin 64) :
    shapeCast S16x2048x8x64 x shapeCasts_S16x2048x512_S16x2048x8x64 (ix4 b t h n) = x (ix3 b t (at64 h n)) := by
  refine (val_main_v22_apply (F := Ideal) x (ix4 b t h n)).trans (congrArg x ?_)
  funext k
  match k with
  | ⟨0, _⟩ => exact Fin.ext (by show (((b.val * 2048 + t.val) * 8 + h.val) * 64 + n.val) / 1048576 = b.val; omega)
  | ⟨1, _⟩ => exact Fin.ext (by show (((b.val * 2048 + t.val) * 8 + h.val) * 64 + n.val) / 512 % 2048 = t.val; omega)
  | ⟨2, _⟩ => exact Fin.ext (by show (((b.val * 2048 + t.val) * 8 + h.val) * 64 + n.val) % 512 = h.val * 64 + n.val; omega)

theorem split128 (x : FVec Ideal S16x2048x512 .f32) (b : Fin 16) (t : Fin 2048) (h : Fin 4) (n : Fin 128) :
    shapeCast S16x2048x4x128 x shapeCasts_S16x2048x512_S16x2048x4x128 (ix4 b t h n) = x (ix3 b t (at128 h n)) := by
  refine (val_main_v73_apply (F := Ideal) x (ix4 b t h n)).trans (congrArg x ?_)
  funext k
  match k with
  | ⟨0, _⟩ => exact Fin.ext (by show (((b.val * 2048 + t.val) * 4 + h.val) * 128 + n.val) / 1048576 = b.val; omega)
  | ⟨1, _⟩ => exact Fin.ext (by show (((b.val * 2048 + t.val) * 4 + h.val) * 128 + n.val) / 512 % 2048 = t.val; omega)
  | ⟨2, _⟩ => exact Fin.ext (by show (((b.val * 2048 + t.val) * 4 + h.val) * 128 + n.val) % 512 = h.val * 128 + n.val; omega)

theorem join64 (z : FVec Ideal S16x2048x8x64 .f32) (b : Fin 16) (t : Fin 2048) (l : Fin 512) :
    shapeCast S16x2048x512 z shapeCasts_S16x2048x8x64_S16x2048x512 (ix3 b t l) = z (ix4 b t ⟨l.val / 64, by omega⟩ ⟨l.val % 64, by omega⟩) := by
  refine shapeCast_apply z shapeCasts_S16x2048x8x64_S16x2048x512 (ix3 b t l) (ix4 b t ⟨l.val / 64, by omega⟩ ⟨l.val % 64, by omega⟩) ?_
  rewrite [Shape.rowMajor_val_three, Shape.rowMajor_val_four]
  show ((b.val * 2048 + t.val) * 8 + l.val / 64) * 64 + l.val % 64 = (b.val * 2048 + t.val) * 512 + l.val
  omega

theorem join128 (z : FVec Ideal S16x2048x4x128 .f32) (b : Fin 16) (t : Fin 2048) (l : Fin 512) :
    shapeCast S16x2048x512 z shapeCasts_S16x2048x4x128_S16x2048x512 (ix3 b t l) = z (ix4 b t ⟨l.val / 128, by omega⟩ ⟨l.val % 128, by omega⟩) := by
  refine shapeCast_apply z shapeCasts_S16x2048x4x128_S16x2048x512 (ix3 b t l) (ix4 b t ⟨l.val / 128, by omega⟩ ⟨l.val % 128, by omega⟩) ?_
  rewrite [Shape.rowMajor_val_three, Shape.rowMajor_val_four]
  show ((b.val * 2048 + t.val) * 4 + l.val / 128) * 128 + l.val % 128 = (b.val * 2048 + t.val) * 512 + l.val
  omega

theorem v23_at (x : FVec Ideal S16x2048x512 .f32) (b : Fin 16) (t : Fin 2048) (h : Fin 8) :
    val_main_v23 (F := Ideal) x (ix3 b t h) = ∑ n : Fin 64, x (ix3 b t (at64 h n)) := by
  have e : val_main_v23 (F := Ideal) x (ix3 b t h) = ∑ n : Fin 64, val_main_v22 (F := Ideal) x (ix4 b t h n) := by
    pointwise [val_main_v23, val_main_cst_3]
  exact e.trans (Finset.sum_congr rfl fun n _ => split64 x b t h n)

theorem v28_at (x : FVec Ideal S16x2048x512 .f32) (b : Fin 16) (t : Fin 2048) (h : Fin 8) (n : Fin 64) :
    val_main_v28 (F := Ideal) x (ix4 b t h n) = x (ix3 b t (at64 h n))
      - Ideal.div (∑ n : Fin 64, x (ix3 b t (at64 h n))) (Ideal.ofBits FTy.f32 0x42800000#32) := by
  have e : val_main_v28 (F := Ideal) x (ix4 b t h n) = val_main_v22 (F := Ideal) x (ix4 b t h n)
      - Ideal.div (val_main_v23 (F := Ideal) x (ix3 b t h)) (Ideal.ofBits FTy.f32 0x42800000#32) := by
    pointwise [val_main_v28, val_main_v27, val_main_v26, val_main_v25, val_main_v24, val_main_cst_4]
  rw [e, v23_at]
  exact congrArg (· - _) (split64 x b t h n)

theorem v30_at (x : FVec Ideal S16x2048x512 .f32) (b : Fin 16) (t : Fin 2048) (h : Fin 8) :
    val_main_v30 (F := Ideal) x (ix3 b t h) = ∑ n : Fin 64, val_main_v28 (F := Ideal) x (ix4 b t h n) * val_main_v28 (F := Ideal) x (ix4 b t h n) := by
  pointwise [val_main_v30, val_main_v29, val_main_cst_5]

theorem v35_eq (x : FVec Ideal S16x2048x512 .f32) : val_main_v35 (F := Ideal) x = val_main_v28 (F := Ideal) x := rfl

theorem v40_at (x : FVec Ideal S16x2048x512 .f32) (b : Fin 16) (t : Fin 2048) (h : Fin 8) (n : Fin 64) :
    val_main_v40 (F := Ideal) x (ix4 b t h n) = val_main_v28 (F := Ideal) x (ix4 b t h n)
      * Ideal.rsqrt (Ideal.div (val_main_v30 (F := Ideal) x (ix3 b t h)) (Ideal.ofBits FTy.f32 0x42800000#32) + Ideal.ofBits FTy.f32 0x3A27C5AC#32) := by
  rw [← v35_eq]
  pointwise [val_main_v40, val_main_v39, val_main_v38, val_main_v37, val_main_v36, val_main_v33, val_main_v32, val_main_v31, val_main_cst_6, val_main_cst_7]

theorem v47_at (x : FVec Ideal S16x2048x512 .f32) (lg lb : FVec Ideal S512 .f32) (b : Fin 16) (t : Fin 2048) (l : Fin 512) :
    val_main_v47 (F := Ideal) x lg lb (ix3 b t l) = val_main_v41 (F := Ideal) x (ix3 b t l) * lg (ix1 l) + lb (ix1 l) := by
  pointwise [val_main_v47, val_main_v46, val_main_v45, val_main_v44, val_main_v43, val_main_v42]

/-- The head sum of a row's bonus terms. -/
def bsum (r k a ka : Fin 512 → EReal) (rk : Fin 8 → Fin 64 → EReal) (h : Fin 8) : EReal :=
  ∑ n : Fin 64, r (at64 h n) * (k (at64 h n) * (1 + (a (at64 h n) - 1) * ka (at64 h n))) * rk h n

theorem v12_at (k a : FVec Ideal S16x2048x512 .bf16) (ka : FVec Ideal S512 .f32) (b : Fin 16) (t : Fin 2048) (l : Fin 512) :
    val_main_v12 (F := Ideal) k a ka (ix3 b t l) = k (ix3 b t l) * (1 + (a (ix3 b t l) - 1) * ka (ix1 l)) := by
  pointwise [val_main_v12, val_main_v11, val_main_v10, val_main_v9, val_main_v8, val_main_v7, val_main_v6, val_main_v5, val_main_v4, val_main_v1, val_main_cst, val_main_cst_0]

theorem v54_at (r k a : FVec Ideal S16x2048x512 .bf16) (ka : FVec Ideal S512 .f32) (rk : FVec Ideal S8x64 .f32) (b : Fin 16) (t : Fin 2048) (h : Fin 8) :
    val_main_v54 (F := Ideal) r k a ka rk (ix3 b t h)
      = bsum (fun q => r (ix3 b t q)) (fun q => k (ix3 b t q)) (fun q => a (ix3 b t q)) (fun q => ka (ix1 q)) (fun h n => rk (ix2 h n)) h := by
  have e : val_main_v54 (F := Ideal) r k a ka rk (ix3 b t h)
      = ∑ n : Fin 64, val_main_v48 (F := Ideal) r (ix4 b t h n) * val_main_v49 (F := Ideal) k a ka (ix4 b t h n) * rk (ix2 h n) := by
    pointwise [val_main_v54, val_main_v53, val_main_v52, val_main_v51, val_main_v50, val_main_cst_8]
  rw [e, bsum]
  refine Finset.sum_congr rfl fun n _ => ?_
  have e1 : val_main_v48 (F := Ideal) r (ix4 b t h n) = r (ix3 b t (at64 h n)) := split64 _ b t h n
  have e2 : val_main_v49 (F := Ideal) k a ka (ix4 b t h n) = _ := (split64 _ b t h n).trans (v12_at k a ka b t (at64 h n))
  rw [e1, e2]

theorem v64_eq (r k a : FVec Ideal S16x2048x512 .bf16) (ka : FVec Ideal S512 .f32) (rk : FVec Ideal S8x64 .f32) :
    val_main_v64 (F := Ideal) r k a ka rk = val_main_v54 (F := Ideal) r k a ka rk := rfl

theorem v69_at (r k v a0 a1 : FVec Ideal S16x2048x512 .bf16) (ka : FVec Ideal S512 .f32) (rk : FVec Ideal S8x64 .f32)
    (b : Fin 16) (t : Fin 2048) (h : Fin 8) (n : Fin 64) :
    val_main_v69 (F := Ideal) r k v a0 a1 ka rk (ix4 b t h n)
      = (val_main_v54 (F := Ideal) r k a0 ka rk (ix3 b t h) + val_main_v54 (F := Ideal) r k a1 ka rk (ix3 b t h)) * v (ix3 b t (at64 h n)) := by
  rw [← v64_eq r k a1]
  have e : val_main_v69 (F := Ideal) r k v a0 a1 ka rk (ix4 b t h n)
      = (val_main_v54 (F := Ideal) r k a0 ka rk (ix3 b t h) + val_main_v64 (F := Ideal) r k a1 ka rk (ix3 b t h)) * val_main_v67 (F := Ideal) v (ix4 b t h n) := by
    pointwise [val_main_v69, val_main_v68, val_main_v66, val_main_v65, val_main_v57, val_main_v56, val_main_v55, val_main_cst_9]
  rw [e]
  exact congrArg (_ * ·) (split64 _ b t h n)

theorem v72_eq (y : FVec Ideal S16x2048x512 .f32) (r k v g a0 a1 : FVec Ideal S16x2048x512 .bf16) (ka : FVec Ideal S512 .f32) (rk : FVec Ideal S8x64 .f32)
    (lg lb : FVec Ideal S512 .f32) (b : Fin 16) (t : Fin 2048) (l : Fin 512) :
    val_main_v72 (F := Ideal) y r k v g a0 a1 ka rk lg lb (ix3 b t l)
      = (val_main_v47 (F := Ideal) y lg lb (ix3 b t l) + val_main_v70 (F := Ideal) r k v a0 a1 ka rk (ix3 b t l)) * g (ix3 b t l) := rfl

theorem v75_at (x : FVec Ideal S16x2048x512 .f32) (b : Fin 16) (t : Fin 2048) (h : Fin 4) :
    val_main_v75 (F := Ideal) x (ix3 b t h) = ∑ n : Fin 128, x (ix3 b t (at128 h n)) * x (ix3 b t (at128 h n)) := by
  have e : val_main_v75 (F := Ideal) x (ix3 b t h) = ∑ n : Fin 128, val_main_v73 (F := Ideal) x (ix4 b t h n) * val_main_v73 (F := Ideal) x (ix4 b t h n) := by
    pointwise [val_main_v75, val_main_v74, val_main_cst_11]
  rw [e]
  refine Finset.sum_congr rfl fun n _ => ?_
  have e1 : val_main_v73 (F := Ideal) x (ix4 b t h n) = _ := split128 x b t h n
  rw [e1]

theorem v83_at (x : FVec Ideal S16x2048x512 .f32) (b : Fin 16) (t : Fin 2048) (h : Fin 4) (n : Fin 128) :
    val_main_v83 (F := Ideal) x (ix4 b t h n) = x (ix3 b t (at128 h n))
      * Ideal.rsqrt (Ideal.div (val_main_v75 (F := Ideal) x (ix3 b t h)) (Ideal.ofBits FTy.f32 0x43000000#32) + Ideal.ofBits FTy.f32 0x358637BD#32) := by
  have e : val_main_v83 (F := Ideal) x (ix4 b t h n) = val_main_v73 (F := Ideal) x (ix4 b t h n)
      * Ideal.rsqrt (Ideal.div (val_main_v75 (F := Ideal) x (ix3 b t h)) (Ideal.ofBits FTy.f32 0x43000000#32) + Ideal.ofBits FTy.f32 0x358637BD#32) := by
    pointwise [val_main_v83, val_main_v82, val_main_v81, val_main_v80, val_main_v79, val_main_v78, val_main_v77, val_main_v76, val_main_cst_12, val_main_cst_13]
  rw [e]
  exact congrArg (· * _) (split128 x b t h n)

theorem v96_at (x : FVec Ideal S16x2048x512 .f32) (p : FVec Ideal S16x2048x8192 .bf16) (ng : FVec Ideal S512 .f32) (b : Fin 16) (t : Fin 2048) (l : Fin 512) :
    val_main_v96 (F := Ideal) x p ng (ix3 b t l) = val_main_v86 (F := Ideal) x (ix3 b t l) * ng (ix1 l)
      * Ideal.logistic (p (ix3 b t ⟨2048 + l.val, by omega⟩)) := by
  pointwise [val_main_v96, val_main_v95, val_main_v94, val_main_v93, val_main_v92, val_main_v91, val_main_v90, val_main_v89, val_main_v88, val_main_v87,
    val_main_v85, val_main_v84, val_main_cst_14, val_main_cst_15, Ideal.logistic]

/-- The gate of a channel. -/
theorem v104_at (p : FVec Ideal S16x2048x8192 .bf16) (b : Fin 16) (t : Fin 2048) (l : Fin 3072) :
    val_main_v104 (F := Ideal) p (ix3 b t l) = Ideal.logistic (p (ix3 b t ⟨3072 + l.val, by omega⟩)) := by
  pointwise [val_main_v104, val_main_v103, val_main_v102, val_main_v101, val_main_v100, val_main_v99, val_main_v98, val_main_v97,
    val_main_cst_16, val_main_cst_17, Ideal.logistic]

end Cert.Reference4Ideal.Merge
-- ==== Proof.Merge.RefOut.lean ====
module

public import proofs.«01_k».proof.Proof.Merge.Ref

@[expose] public section

set_option maxRecDepth 16384

noncomputable section

namespace Cert.Reference4Ideal.Merge

open Cert.Reference4Ideal Cert.Reference4Ideal.Gen Cert.Reference4Ideal.Read
open Idealize.ShloMosaic Idealize.ShloMosaic.TcCoe Idealize.ShloMosaic.Tactic
open Idealize.SL.Sem
open Cert.Kernel4Ideal.Merge (head quad hsum cent yn yc)

theorem c64 : Ideal.ofBits FTy.f32 0x42800000#32 = ((64 : ℝ) : EReal) := by
  simp [Ideal.ofBits, Ideal.ieee]
  rw [← EReal.coe_mul]
  norm_num

theorem c64i : Ideal.ofBits FTy.f32 0x3C800000#32 = (((64 : ℝ)⁻¹ : ℝ) : EReal) := by
  simp [Ideal.ofBits, Ideal.ieee]
  rw [← EReal.coe_mul]
  norm_num

/-- Dividing by sixty-four is multiplying by its reciprocal. -/
theorem div64 (x : EReal) : Ideal.div x (Ideal.ofBits FTy.f32 0x42800000#32) = x * Ideal.ofBits FTy.f32 0x3C800000#32 := by
  rw [c64, c64i, Ideal.div, if_neg (by norm_num), EReal.coe_inv]

theorem at_head (l : Fin 512) (n : Fin 64) : at64 ⟨l.val / 64, by omega⟩ n = head l n := rfl
theorem head_at (h : Fin 8) (n n' : Fin 64) : head (at64 h n) n' = at64 h n' :=
  Fin.ext (by show (h.val * 64 + n.val) / 64 * 64 + n'.val = h.val * 64 + n'.val; omega)
theorem at_self (l : Fin 512) : at64 ⟨l.val / 64, by omega⟩ ⟨l.val % 64, by omega⟩ = l :=
  Fin.ext (by show l.val / 64 * 64 + l.val % 64 = l.val; omega)
theorem quad_self (l : Fin 512) : at128 ⟨l.val / 128, by omega⟩ ⟨l.val % 128, by omega⟩ = l :=
  Fin.ext (by show l.val / 128 * 128 + l.val % 128 = l.val; omega)

theorem hsum_at (f : Fin 512 → EReal) (h : Fin 8) (n : Fin 64) : hsum f (at64 h n) = ∑ n' : Fin 64, f (at64 h n') :=
  Finset.sum_congr rfl fun n' _ => congrArg f (head_at h n n')

theorem v28_cent (x : FVec Ideal S16x2048x512 .f32) (b : Fin 16) (t : Fin 2048) (h : Fin 8) (n : Fin 64) :
    val_main_v28 (F := Ideal) x (ix4 b t h n) = cent (fun q => x (ix3 b t q)) (at64 h n) := by
  rw [v28_at, div64, cent, hsum_at]

/-- The normed first readout. -/
theorem v47_yn (x : FVec Ideal S16x2048x512 .f32) (lg lb : FVec Ideal S512 .f32) (b : Fin 16) (t : Fin 2048) (l : Fin 512) :
    val_main_v47 (F := Ideal) x lg lb (ix3 b t l) = yn (fun q => x (ix3 b t q)) (fun q => lg (ix1 q)) (fun q => lb (ix1 q)) l := by
  have e : val_main_v41 (F := Ideal) x (ix3 b t l) = _ := join64 (val_main_v40 (F := Ideal) x) b t l
  rw [v47_at, e, v40_at, v30_at, div64]
  simp only [v28_cent, at_self]
  rfl

theorem v70_at (r k v a0 a1 : FVec Ideal S16x2048x512 .bf16) (ka : FVec Ideal S512 .f32) (rk : FVec Ideal S8x64 .f32)
    (b : Fin 16) (t : Fin 2048) (l : Fin 512) :
    val_main_v70 (F := Ideal) r k v a0 a1 ka rk (ix3 b t l)
      = (bsum (fun q => r (ix3 b t q)) (fun q => k (ix3 b t q)) (fun q => a0 (ix3 b t q)) (fun q => ka (ix1 q)) (fun h n => rk (ix2 h n)) ⟨l.val / 64, by omega⟩
        + bsum (fun q => r (ix3 b t q)) (fun q => k (ix3 b t q)) (fun q => a1 (ix3 b t q)) (fun q => ka (ix1 q)) (fun h n => rk (ix2 h n)) ⟨l.val / 64, by omega⟩)
        * v (ix3 b t l) := by
  have e : val_main_v70 (F := Ideal) r k v a0 a1 ka rk (ix3 b t l) = _ := join64 (val_main_v69 (F := Ideal) r k v a0 a1 ka rk) b t l
  rw [e, v69_at, v54_at, v54_at, at_self]

/-- The normed and gated third readout. -/
theorem v96_yc (x : FVec Ideal S16x2048x512 .f32) (p : FVec Ideal S16x2048x8192 .bf16) (ng : FVec Ideal S512 .f32) (b : Fin 16) (t : Fin 2048) (l : Fin 512) :
    val_main_v96 (F := Ideal) x p ng (ix3 b t l)
      = yc (fun q => x (ix3 b t q)) (fun q => p (ix3 b t ⟨2048 + q.val, by omega⟩)) (fun q => ng (ix1 q)) l := by
  have e : val_main_v86 (F := Ideal) x (ix3 b t l) = _ := join128 (val_main_v83 (F := Ideal) x) b t l
  rw [v96_at, e, v83_at, v75_at, quad_self]
  rfl

theorem v105_at (p : FVec Ideal S16x2048x8192 .bf16) (b : Fin 16) (t : Fin 2048) (q : Fin 1024) :
    val_main_v105 (F := Ideal) p (ix3 b t q) = Ideal.logistic (p (ix3 b t ⟨3072 + q.val, by omega⟩)) := by
  have e : val_main_v105 (F := Ideal) p (ix3 b t q) = val_main_v104 (F := Ideal) p (ix3 b t ⟨q.val, by omega⟩) := by
    pointwise [val_main_v105]
  rw [e, v104_at]

theorem v106_at (p : FVec Ideal S16x2048x8192 .bf16) (b : Fin 16) (t : Fin 2048) (q : Fin 1024) :
    val_main_v106 (F := Ideal) p (ix3 b t q) = Ideal.logistic (p (ix3 b t ⟨4096 + q.val, by omega⟩)) := by
  have e : val_main_v106 (F := Ideal) p (ix3 b t q) = val_main_v104 (F := Ideal) p (ix3 b t ⟨1024 + q.val, by omega⟩) := by
    pointwise [val_main_v106]
  rw [e, v104_at]
  exact congrArg (fun i => Ideal.logistic (p (ix3 b t i))) (Fin.ext (by show 3072 + (1024 + q.val) = 4096 + q.val; omega))

theorem v107_at (p : FVec Ideal S16x2048x8192 .bf16) (b : Fin 16) (t : Fin 2048) (q : Fin 1024) :
    val_main_v107 (F := Ideal) p (ix3 b t q) = Ideal.logistic (p (ix3 b t ⟨5120 + q.val, by omega⟩)) := by
  have e : val_main_v107 (F := Ideal) p (ix3 b t q) = val_main_v104 (F := Ideal) p (ix3 b t ⟨2048 + q.val, by omega⟩) := by
    pointwise [val_main_v107]
  rw [e, v104_at]
  exact congrArg (fun i => Ideal.logistic (p (ix3 b t i))) (Fin.ext (by show 3072 + (2048 + q.val) = 5120 + q.val; omega))

variable (y : FVec Ideal S16x2048x512 .f32) (r k v g a0 a1 : FVec Ideal S16x2048x512 .bf16) (yb h : FVec Ideal S16x2048x512 .f32)
  (p : FVec Ideal S16x2048x8192 .bf16) (x : FVec Ideal S16x2048x1024 .f32) (md : FVec Ideal S16x6x1024 .f32) (ka : FVec Ideal S512 .f32)
  (rk : FVec Ideal S8x64 .f32) (lg lb ng : FVec Ideal S512 .f32) (wb : FVec Ideal S3x512x1024 .f32) (wo : FVec Ideal S1024x1024 .f32)

/-- The merge before the output product. -/
theorem v121_at (b : Fin 16) (t : Fin 2048) (q : Fin 1024) :
    val_main_v121 (F := Ideal) y r k v g a0 a1 yb h p ka rk lg lb ng wb (ix3 b t q)
      = val_main_v105 (F := Ideal) p (ix3 b t q) * ∑ j : Fin 512, val_main_v72 (F := Ideal) y r k v g a0 a1 ka rk lg lb (ix3 b t j) * wb (ix3 0 j q)
        + val_main_v106 (F := Ideal) p (ix3 b t q) * ∑ j : Fin 512, yb (ix3 b t j) * wb (ix3 1 j q)
        + val_main_v107 (F := Ideal) p (ix3 b t q) * ∑ j : Fin 512, val_main_v96 (F := Ideal) h p ng (ix3 b t j) * wb (ix3 2 j q) := by
  pointwise [val_main_v121, val_main_v120, val_main_v119, val_main_v118, val_main_v117, val_main_v116, val_main_v115, val_main_v114, val_main_v113,
    val_main_v112, val_main_v111, val_main_v110, val_main_v109, val_main_v108]

/-- The result from the merge. -/
theorem v126_at (b : Fin 16) (t : Fin 2048) (e : Fin 1024) :
    val_main_v126 (F := Ideal) y r k v g a0 a1 yb h p x md ka rk lg lb ng wb wo (ix3 b t e)
      = x (ix3 b t e) + md (ix3 b 2 e) * ∑ q : Fin 1024, val_main_v121 (F := Ideal) y r k v g a0 a1 yb h p ka rk lg lb ng wb (ix3 b t q) * wo (ix2 q e) := by
  pointwise [val_main_v126, val_main_v125, val_main_v124, val_main_v123, val_main_v122]

end Cert.Reference4Ideal.Merge
-- ==== Proof.Merge.Bonus.lean ====
module

public import proofs.«01_k».proof.Proof.Merge.Ref
public import proofs.«01_k».proof.Proof.Gen.Pre_finite_bonus
public import Idealize.ShloMosaic.Lib.ReduceAll
public import Idealize.ShloMosaic.Lib.IdealHost

@[expose] public section

set_option maxRecDepth 16384

noncomputable section

namespace Cert.Pre_finite_bonus.Merge

open Cert.Pre_finite_bonus
open Idealize.ShloMosaic Idealize.ShloMosaic.TcCoe Idealize.SL.Sem
open Cert.Kernel4Ideal.Merge (head hsum bon)
open Cert.Reference4Ideal.Merge (at64 bsum)

/-- Finite: a real. -/
def Fin1 (x : EReal) : Prop := ∃ y : ℝ, x = (y : EReal)

theorem real_of_lt (x : EReal) (h : max x (-x) < ⊤) : Fin1 x := by
  have h1 : x ≠ ⊤ := fun e => by subst e; simp at h
  have h2 : x ≠ ⊥ := fun e => by subst e; simp at h
  exact ⟨x.toReal, (EReal.coe_toReal h1 h2).symm⟩

theorem inf_f32 : Ideal.ofBits .f32 0x7F800000#32 = ⊤ := by simp [Ideal.ofBits, Ideal.ieee]

theorem real_of_cmp (x : EReal) (h : Ideal.cmp .olt (max x (-x)) (Ideal.ofBits .f32 0x7F800000#32) = 1#1) : Fin1 x := by
  rw [inf_f32] at h
  apply real_of_lt
  by_contra hc
  simp [Ideal.cmp, hc] at h

theorem and_one (a b : BitVec 1) (h : IntOp.andi a b = 1#1) : a = 1#1 ∧ b = 1#1 := by
  revert h
  revert a b
  decide

theorem two : Ideal.ofBits FTy.f32 0x40000000#32 = ((2 : ℝ) : EReal) := by
  simp [Ideal.ofBits, Ideal.ieee]
  rw [← EReal.coe_mul]
  norm_num

/-- One lane: both directions' terms are the summed one's. -/
theorem term (r k a0 a1 ka rk : EReal) (hr : Fin1 r) (hk : Fin1 k) (h0 : Fin1 a0) (h1 : Fin1 a1) (hka : Fin1 ka) (hrk : Fin1 rk) :
    r * (k * (1 + (a0 - 1) * ka)) * rk + r * (k * (1 + (a1 - 1) * ka)) * rk
      = r * (k * (Ideal.ofBits FTy.f32 0x40000000#32 + (a0 + a1 - Ideal.ofBits FTy.f32 0x40000000#32) * ka)) * rk := by
  obtain ⟨r, rfl⟩ := hr
  obtain ⟨k, rfl⟩ := hk
  obtain ⟨a0, rfl⟩ := h0
  obtain ⟨a1, rfl⟩ := h1
  obtain ⟨ka, rfl⟩ := hka
  obtain ⟨rk, rfl⟩ := hrk
  rw [two, ← EReal.coe_one]
  norm_cast
  ring

/-- The head sums. -/
theorem bonus (r k a0 a1 ka : Fin 512 → EReal) (rk : Fin 8 → Fin 64 → EReal) (rl : Fin 512 → EReal)
    (hl : ∀ h n, rl (at64 h n) = rk h n)
    (hr : ∀ q, Fin1 (r q)) (hk : ∀ q, Fin1 (k q)) (h0 : ∀ q, Fin1 (a0 q)) (h1 : ∀ q, Fin1 (a1 q)) (hka : ∀ q, Fin1 (ka q)) (hrk : ∀ h n, Fin1 (rk h n))
    (l : Fin 512) :
    bsum r k a0 ka rk ⟨l.val / 64, by omega⟩ + bsum r k a1 ka rk ⟨l.val / 64, by omega⟩ = hsum (bon r k a0 a1 ka rl) l := by
  rw [bsum, bsum, ← Finset.sum_add_distrib, hsum]
  refine Finset.sum_congr rfl fun n _ => ?_
  show _ = bon r k a0 a1 ka rl (at64 ⟨l.val / 64, by omega⟩ n)
  rw [term _ _ _ _ _ _ (hr _) (hk _) (h0 _) (h1 _) (hka _) (hrk _ _), bon, hl]

variable (x0 : FVec Ideal S16x2048x512 .f32) (x1 x2 x3 x4 x5 x6 : FVec Ideal S16x2048x512 .bf16) (x7 x8 : FVec Ideal S16x2048x512 .f32)
  (x9 : FVec Ideal S16x2048x8192 .bf16) (x10 : FVec Ideal S16x2048x1024 .f32) (x11 : FVec Ideal S16x6x1024 .f32) (x12 : FVec Ideal S512 .f32)
  (x13 : FVec Ideal S8x64 .f32) (x14 x15 x16 : FVec Ideal S512 .f32) (x17 : FVec Ideal S3x512x1024 .f32) (x18 : FVec Ideal S1024x1024 .f32)

/-- The precondition read back: every entry of the bonus's six arrays is a real. -/
theorem reals (h : @fn Gen.facts Ideal _ x0 x1 x2 x3 x4 x5 x6 x7 x8 x9 x10 x11 x12 x13 x14 x15 x16 x17 x18 = fun _ => 1#1) :
    (∀ i, Fin1 (x1 i)) ∧ (∀ i, Fin1 (x2 i)) ∧ (∀ i, Fin1 (x5 i)) ∧ (∀ i, Fin1 (x6 i)) ∧ (∀ i, Fin1 (x12 i)) ∧ (∀ i, Fin1 (x13 i)) := by
  have : Subsingleton S_.Idx := ⟨fun i j => funext fun k => k.elim0⟩
  have h6 := congrFun h (fun k => k.elim0)
  obtain ⟨h5, e5⟩ := and_one _ _ h6
  obtain ⟨h4, e4⟩ := and_one _ _ h5
  obtain ⟨h3, e3⟩ := and_one _ _ h4
  obtain ⟨h2, e2⟩ := and_one _ _ h3
  obtain ⟨e0, e1⟩ := and_one _ _ h2
  exact ⟨fun i => real_of_cmp _ (Host.reduce_andi_all _ _ _ _ _ e0 i), fun i => real_of_cmp _ (Host.reduce_andi_all _ _ _ _ _ e1 i),
    fun i => real_of_cmp _ (Host.reduce_andi_all _ _ _ _ _ e2 i), fun i => real_of_cmp _ (Host.reduce_andi_all _ _ _ _ _ e3 i),
    fun i => real_of_cmp _ (Host.reduce_andi_all _ _ _ _ _ e4 i), fun i => real_of_cmp _ (Host.reduce_andi_all _ _ _ _ _ e5 i)⟩

end Cert.Pre_finite_bonus.Merge
-- ==== Proof.Merge.Final.lean ====
module

public import proofs.«01_k».proof.Proof.Merge.Out
public import proofs.«01_k».proof.Proof.Merge.RefOut
public import proofs.«01_k».proof.Proof.Merge.Bonus

@[expose] public section

set_option maxRecDepth 16384

noncomputable section

namespace Cert.Kernel4Ideal.Merge

open Cert.Kernel4Ideal Cert.Kernel4Ideal.Gen
open Idealize.ShloMosaic Idealize.ShloMosaic.TcCoe Idealize.ShloMosaic.Tactic
open Idealize.SL.Sem
open Cert.Reference4Ideal.Read
open Cert.Reference4Ideal.Merge

variable (m : (ℓ : Loc nD τ sig) → Buf (Elt Ideal) ℓ)

/-- The arguments of the kernel's program that its call reads prepared, at their shapes. -/
def c12 (c : Dev nD) : FVec Ideal S512 .f32 := m ((c.tc : Thread nD τ).loc main_arg12)
def c13 (c : Dev nD) : FVec Ideal S8x64 .f32 := m ((c.tc : Thread nD τ).loc main_arg13)
def c14 (c : Dev nD) : FVec Ideal S512 .f32 := m ((c.tc : Thread nD τ).loc main_arg14)
def c15 (c : Dev nD) : FVec Ideal S512 .f32 := m ((c.tc : Thread nD τ).loc main_arg15)
def c16 (c : Dev nD) : FVec Ideal S512 .f32 := m ((c.tc : Thread nD τ).loc main_arg16)
def c17 (c : Dev nD) : FVec Ideal S3x512x1024 .f32 := m ((c.tc : Thread nD τ).loc main_arg17)
def c18 (c : Dev nD) : FVec Ideal S1024x1024 .f32 := m ((c.tc : Thread nD τ).loc main_arg18)

/-- The arguments its call reads as they are. -/
def c0 (c : Dev nD) : FVec Ideal S16x2048x512 .f32 := m ((c.tc : Thread nD τ).loc main_arg0)
def c1 (c : Dev nD) : FVec Ideal S16x2048x512 .bf16 := m ((c.tc : Thread nD τ).loc main_arg1)
def c2 (c : Dev nD) : FVec Ideal S16x2048x512 .bf16 := m ((c.tc : Thread nD τ).loc main_arg2)
def c3 (c : Dev nD) : FVec Ideal S16x2048x512 .bf16 := m ((c.tc : Thread nD τ).loc main_arg3)
def c4 (c : Dev nD) : FVec Ideal S16x2048x512 .bf16 := m ((c.tc : Thread nD τ).loc main_arg4)
def c5 (c : Dev nD) : FVec Ideal S16x2048x512 .bf16 := m ((c.tc : Thread nD τ).loc main_arg5)
def c6 (c : Dev nD) : FVec Ideal S16x2048x512 .bf16 := m ((c.tc : Thread nD τ).loc main_arg6)
def c7 (c : Dev nD) : FVec Ideal S16x2048x512 .f32 := m ((c.tc : Thread nD τ).loc main_arg7)
def c8 (c : Dev nD) : FVec Ideal S16x2048x512 .f32 := m ((c.tc : Thread nD τ).loc main_arg8)
def c9 (c : Dev nD) : FVec Ideal S16x2048x8192 .bf16 := m ((c.tc : Thread nD τ).loc main_arg9)
def c10 (c : Dev nD) : FVec Ideal S16x2048x1024 .f32 := m ((c.tc : Thread nD τ).loc main_arg10)
def c11 (c : Dev nD) : FVec Ideal S16x6x1024 .f32 := m ((c.tc : Thread nD τ).loc main_arg11)

theorem ay_eq (c : Dev nD) : ay m c = c0 m c := V_main_arg0 m c
theorem ar_eq (c : Dev nD) : ar m c = c1 m c := V_main_arg1 m c
theorem ak_eq (c : Dev nD) : ak m c = c2 m c := V_main_arg2 m c
theorem av_eq (c : Dev nD) : av m c = c3 m c := V_main_arg3 m c
theorem ag_eq (c : Dev nD) : ag m c = c4 m c := V_main_arg4 m c
theorem aa_eq (c : Dev nD) : aa m c = c5 m c := V_main_arg5 m c
theorem ab_eq (c : Dev nD) : ab m c = c6 m c := V_main_arg6 m c
theorem az_eq (c : Dev nD) : az m c = c7 m c := V_main_arg7 m c
theorem ah_eq (c : Dev nD) : ah m c = c8 m c := V_main_arg8 m c
theorem ap_eq (c : Dev nD) : ap m c = c9 m c := V_main_arg9 m c
theorem ax_eq (c : Dev nD) : ax m c = c10 m c := V_main_arg10 m c
theorem am_eq (c : Dev nD) : am m c = c11 m c := V_main_arg11 m c

theorem ka_at (c : Dev nD) (q : Fin 512) : ka m c (ix2 0 q) = c12 m c (ix1 q) := by
  show V m c main_v2 (ix2 0 q) = _
  entry_read
  pointwise
  rfl

theorem rk_at (c : Dev nD) (h : Fin 8) (n : Fin 64) : rk m c (ix2 0 (at64 h n)) = c13 m c (ix2 h n) := by
  show V m c main_v3 (ix2 0 (at64 h n)) = _
  entry_read
  refine shapeCast_apply _ _ (ix2 0 (at64 h n)) (ix2 h n) ?_
  rewrite [Shape.rowMajor_val_two, Shape.rowMajor_val_two]
  show h.val * 64 + n.val = 0 * 512 + (h.val * 64 + n.val)
  omega

theorem lg_at (c : Dev nD) (q : Fin 512) : lg m c (ix2 0 q) = c14 m c (ix1 q) := by
  show V m c main_v4 (ix2 0 q) = _
  entry_read
  pointwise
  rfl

theorem lb_at (c : Dev nD) (q : Fin 512) : lb m c (ix2 0 q) = c15 m c (ix1 q) := by
  show V m c main_v5 (ix2 0 q) = _
  entry_read
  pointwise
  rfl

theorem ng_at (c : Dev nD) (q : Fin 512) : ng m c (ix2 0 q) = c16 m c (ix1 q) := by
  show V m c main_v6 (ix2 0 q) = _
  entry_read
  pointwise
  rfl

theorem wb_at (c : Dev nD) (d : Fin 3) (j : Fin 512) (q : Fin 1024) : wb m c (ix3 d j q) = c17 m c (ix3 d j q) := by
  show V m c main_v0 (ix3 d j q) = _
  entry_read
  rfl

theorem wo_at (c : Dev nD) (q e : Fin 1024) : wo m c (ix2 q e) = c18 m c (ix2 q e) := by
  show V m c main_v1 (ix2 q e) = _
  entry_read
  rfl

/-- The bonus's six arrays hold reals. -/
def Reals (c : Dev nD) : Prop :=
  (∀ i, Cert.Pre_finite_bonus.Merge.Fin1 (ar m c i)) ∧ (∀ i, Cert.Pre_finite_bonus.Merge.Fin1 (ak m c i))
    ∧ (∀ i, Cert.Pre_finite_bonus.Merge.Fin1 (aa m c i)) ∧ (∀ i, Cert.Pre_finite_bonus.Merge.Fin1 (ab m c i))
    ∧ (∀ i, Cert.Pre_finite_bonus.Merge.Fin1 (c12 m c i)) ∧ (∀ i, Cert.Pre_finite_bonus.Merge.Fin1 (c13 m c i))

/-- The first readout is the reference's. -/
theorem readout_eq (c : Dev nD) (hp : Reals m c) (b : Fin 16) (a : Fin 2048) (l : Fin 512) :
    yaAt m c b a l = val_main_v72 (F := Ideal) (ay m c) (ar m c) (ak m c) (av m c) (ag m c) (aa m c) (ab m c) (c12 m c) (c13 m c) (c14 m c) (c15 m c) (ix3 b a l) := by
  obtain ⟨hr, hk, h0, h1, h2, h3⟩ := hp
  rw [v72_eq, v47_yn, v70_at,
    Cert.Pre_finite_bonus.Merge.bonus _ _ _ _ _ _ (fun q => rk m c (ix2 0 q)) (fun h n => rk_at m c h n) (fun q => hr _) (fun q => hk _) (fun q => h0 _)
      (fun q => h1 _) (fun q => h2 _) (fun h n => h3 _)]
  rw [yaAt, ya]
  simp only [ka_at, lg_at, lb_at]

/-- The third is. -/
theorem yc_eq (c : Dev nD) (b : Fin 16) (a : Fin 2048) (l : Fin 512) :
    ycAt m c b a l = val_main_v96 (F := Ideal) (ah m c) (ap m c) (c16 m c) (ix3 b a l) := by
  rw [v96_yc, ycAt]
  simp only [ng_at]

/-- The kernel's result at an index. -/
theorem out_eq (c : Dev nD) (hp : Reals m c) (b : Fin 16) (a : Fin 2048) (e : Fin 1024) :
    out m c b a e = val_main_v126 (F := Ideal) (ay m c) (ar m c) (ak m c) (av m c) (ag m c) (aa m c) (ab m c) (az m c) (ah m c) (ap m c) (ax m c) (am m c)
      (c12 m c) (c13 m c) (c14 m c) (c15 m c) (c16 m c) (c17 m c) (c18 m c) (ix3 b a e) := by
  rw [v126_at, out]
  simp only [v121_at, v105_at, v106_at, v107_at, readout_eq m c hp, yc_eq, wb_at, wo_at]

/-- The kernel's result array is the reference's. -/
theorem result_eq (c : Dev nD) (hp : Reals m c) :
    result m c = val_main_v126 (F := Ideal) (ay m c) (ar m c) (ak m c) (av m c) (ag m c) (aa m c) (ab m c) (az m c) (ah m c) (ap m c) (ax m c) (am m c)
      (c12 m c) (c13 m c) (c14 m c) (c15 m c) (c16 m c) (c17 m c) (c18 m c) := by
  funext i
  have e : i = ix3 (i 0) (i 1) (i 2) := by
    funext k; match k with
      | ⟨0, _⟩ => rfl
      | ⟨1, _⟩ => rfl
      | ⟨2, _⟩ => rfl
  rw [e]
  exact out_eq m c hp (i 0) (i 1) (i 2)

/-- The same over the program's arguments. -/
theorem args_eq (c : Dev nD)
    (hp : (∀ i, Cert.Pre_finite_bonus.Merge.Fin1 (c1 m c i)) ∧ (∀ i, Cert.Pre_finite_bonus.Merge.Fin1 (c2 m c i))
      ∧ (∀ i, Cert.Pre_finite_bonus.Merge.Fin1 (c5 m c i)) ∧ (∀ i, Cert.Pre_finite_bonus.Merge.Fin1 (c6 m c i))
      ∧ (∀ i, Cert.Pre_finite_bonus.Merge.Fin1 (c12 m c i)) ∧ (∀ i, Cert.Pre_finite_bonus.Merge.Fin1 (c13 m c i))) :
    result m c = val_main_v126 (F := Ideal) (c0 m c) (c1 m c) (c2 m c) (c3 m c) (c4 m c) (c5 m c) (c6 m c) (c7 m c) (c8 m c) (c9 m c) (c10 m c) (c11 m c)
      (c12 m c) (c13 m c) (c14 m c) (c15 m c) (c16 m c) (c17 m c) (c18 m c) := by
  have h : Reals m c := by
    rw [Reals, ar_eq, ak_eq, aa_eq, ab_eq]
    exact hp
  rw [result_eq m c h, ay_eq, ar_eq, ak_eq, av_eq, ag_eq, aa_eq, ab_eq, az_eq, ah_eq, ap_eq, ax_eq, am_eq]

end Cert.Kernel4Ideal.Merge
-- ==== Proof.Norms.Tile.lean ====
module

public import proofs.«01_k».proof.Proof.Gen.Kernel5Ideal.Frame
public import Idealize.ShloMosaic.Lib.Pointwise
public import Idealize.ShloMosaic.Lib.Pipeline.ValueKit

@[expose] public section

set_option maxRecDepth 16384

noncomputable section

namespace Cert.Kernel5Ideal.Norms

open Cert.Kernel5Ideal Cert.Kernel5Ideal.Gen
open Idealize.ShloMosaic Idealize.ShloMosaic.TcCoe Idealize.ShloMosaic.Tactic
open Idealize.SL.Sem

/-- The lanes of a pair's first head. -/
def lo : IVec S512x128 1 := cmpi .slt (iota .tc S512x128 32 [1] iota_S512x128_d1_w32) (broadcast S512x128 64#32)

theorem lo_at (r : Fin 512) (d : Fin 128) : lo (ix2 r d) = BitVec.ofBool (decide (d.val < 64)) := by
  have h : ∀ d : Fin 128, IntOp.cmpi CmpIPredicate.slt (BitVec.ofNat 32 d.val) 64#32 = BitVec.ofBool (decide (d.val < 64)) := by decide +kernel
  rw [← h]
  pointwise [lo]

def zeros : FVec Ideal S512x128 .f32 := broadcast S512x128 (Scalar.ofBits .f32 0x00000000#32)

/-- A row summed over its lanes, the same in every lane. -/
def rowSum (x : FVec Ideal S512x128 .f32) : FVec Ideal S512x128 .f32 :=
  broadcastTo S512x128 (shapeCast S512x1 (shapeCast S512x1 (multiReduction .add [1] S512 x 0x00000000#32 reduces_S512x128_S512 (.inl rfl) rfl)
    shapeCasts_S512_S512x1) shapeCasts_S512x1_S512x1) broadcasts_S512x1_S512x128

/-- A pair of heads, each summed over its own lanes. -/
def pair (x : FVec Ideal S512x128 .f32) : FVec Ideal S512x128 .f32 := select lo (rowSum (select lo x zeros)) (rowSum (select lo zeros x))

theorem rowSum_at (x : FVec Ideal S512x128 .f32) (r : Fin 512) (d : Fin 128) : rowSum x (ix2 r d) = ∑ k : Fin 128, x (ix2 r k) := by
  pointwise [rowSum]

/-- The head of a lane: its lanes. -/
def half (d : Fin 128) (n : Fin 64) : Fin 128 := ⟨d.val / 64 * 64 + n.val, by omega⟩

theorem sel_at (c : IVec S512x128 1) (x y : FVec Ideal S512x128 .f32) (i : S512x128.Idx) : select c x y i = Scalar.select (c i) (x i) (y i) := rfl

theorem pair_at (x : FVec Ideal S512x128 .f32) (r : Fin 512) (d : Fin 128) : pair x (ix2 r d) = ∑ n : Fin 64, x (ix2 r (half d n)) := by
  have hz : ∀ k, zeros (ix2 r k) = 0 := fun k => by pointwise [zeros]
  have hs : ∀ (p : Prop) [Decidable p] (a b : EReal), Scalar.select (BitVec.ofBool (decide p)) a b = if p then a else b := fun p _ a b => by
    by_cases h : p
    · rw [if_pos h, decide_eq_true h]; rfl
    · rw [if_neg h, decide_eq_false h]; rfl
  rw [pair, sel_at, rowSum_at, rowSum_at, lo_at, hs]
  simp only [sel_at, lo_at, hz, hs]
  have e : ∀ f : Fin 128 → EReal, ∑ k, f k = ∑ n : Fin 64, f ⟨n.val, by omega⟩ + ∑ n : Fin 64, f ⟨64 + n.val, by omega⟩ :=
    fun f => Fin.sum_univ_add (a := 64) (b := 64) f
  have l1 : ∀ n : Fin 64, n.val < 64 := fun n => n.isLt
  have l2 : ∀ n : Fin 64, ¬ 64 + n.val < 64 := fun n => by omega
  by_cases h : d.val < 64
  · rw [if_pos h, e]
    simp only [l1, l2, if_true, if_false, Finset.sum_const_zero, add_zero]
    refine Finset.sum_congr rfl fun n _ => congrArg (fun k => x (ix2 r k)) (Fin.ext ?_)
    show n.val = d.val / 64 * 64 + n.val
    omega
  · rw [if_neg h, e]
    simp only [l1, l2, if_true, if_false, Finset.sum_const_zero, zero_add]
    refine Finset.sum_congr rfl fun n _ => congrArg (fun k => x (ix2 r k)) (Fin.ext ?_)
    show 64 + n.val = d.val / 64 * 64 + n.val
    omega

/-- A quarter of the lanes: one pair of heads. -/
def piece (n : Fin 4) (v : FVec Ideal S512x512 .f32) : FVec Ideal S512x128 .f32 :=
  match n with
  | ⟨0, _⟩ => extractStridedSlice S512x128 ![0, 0] v slices_S512x512_o0_0_S512x128
  | ⟨1, _⟩ => extractStridedSlice S512x128 ![0, 128] v slices_S512x512_o0_128_S512x128
  | ⟨2, _⟩ => extractStridedSlice S512x128 ![0, 256] v slices_S512x512_o0_256_S512x128
  | ⟨3, _⟩ => extractStridedSlice S512x128 ![0, 384] v slices_S512x512_o0_384_S512x128

def lane (n : Fin 4) (d : Fin 128) : Fin 512 := ⟨n.val * 128 + d.val, by omega⟩

theorem piece_at (n : Fin 4) (v : FVec Ideal S512x512 .f32) (r : Fin 512) (d : Fin 128) : piece n v (ix2 r d) = v (ix2 r (lane n d)) := by
  match n with
  | ⟨0, _⟩ => pointwise [piece, lane]
  | ⟨1, _⟩ => pointwise [piece, lane]
  | ⟨2, _⟩ => pointwise [piece, lane]
  | ⟨3, _⟩ => pointwise [piece, lane]

/-- Four quarters side by side. -/
def beside (f : Fin 4 → FVec Ideal S512x128 .f32) : FVec Ideal S512x512 .f32 :=
  concatenate S512x512 1 [⟨S512x128, f ⟨0, by omega⟩⟩, ⟨S512x128, f ⟨1, by omega⟩⟩, ⟨S512x128, f ⟨2, by omega⟩⟩, ⟨S512x128, f ⟨3, by omega⟩⟩]
    concatenates_S512x128_S512x128_S512x128_S512x128_S512x512_d1

def qtr (l : Fin 512) : Fin 4 := ⟨l.val / 128, by omega⟩
def sub (l : Fin 512) : Fin 128 := ⟨l.val % 128, by omega⟩

theorem beside_at (f : Fin 4 → FVec Ideal S512x128 .f32) (r l : Fin 512) : beside f (ix2 r l) = f (qtr l) (ix2 r (sub l)) := by
  refine concatenate_ofFn_apply (1 : Fin S512x512.rank) f concatenates_S512x128_S512x128_S512x128_S512x128_S512x512_d1 rfl 128 rfl (ix2 r l) (qtr l) rfl
    (ix2 r (sub l)) rfl fun b hb => ?_
  match b with
  | ⟨0, _⟩ => rfl
  | ⟨1, _⟩ => exact absurd rfl hb

/-- The lanes of a lane's head. -/
def head (l : Fin 512) (n : Fin 64) : Fin 512 := ⟨l.val / 64 * 64 + n.val, by omega⟩

/-- The sums over heads. -/
def sums (v : FVec Ideal S512x512 .f32) : FVec Ideal S512x512 .f32 := beside fun n => pair (piece n v)

theorem sums_at (v : FVec Ideal S512x512 .f32) (r l : Fin 512) : sums v (ix2 r l) = ∑ n : Fin 64, v (ix2 r (head l n)) := by
  rw [sums, beside_at, pair_at]
  refine Finset.sum_congr rfl fun n _ => (piece_at _ _ _ _).trans (congrArg (fun k => v (ix2 r k)) (Fin.ext ?_))
  show l.val / 128 * 128 + (l.val % 128 / 64 * 64 + n.val) = l.val / 64 * 64 + n.val
  omega

/-- A row of heads normed, with the norm's weights. -/
def nrmd (v : FVec Ideal S512x512 .f32) (g : FVec Ideal S1x512 .f32) : FVec Ideal S512x512 .f32 :=
  mulf (mulf v (rsqrt (addf (mulf (sums (mulf v v)) (broadcast S512x512 (Scalar.ofBits .f32 0x3C800000#32)))
    (broadcast S512x512 (Scalar.ofBits .f32 0x358637BD#32))))) (broadcastTo S512x512 (shapeCast S1x512 g shapeCasts_S1x512_S1x512) broadcasts_S1x512_S512x512)

theorem pay14_eq (x : Vec Ideal S1x512x1536 .bf16) (g : Vec Ideal S1x512 .f32) :
    k0_pay14 (k0_pay5 x) (k0_pay7 x) k0_pay8 (k0_pay9 x) (k0_pay10 x) (k0_pay11 x) (k0_pay12 x) k0_pay13 g = nrmd (k0_pay5 x) g := rfl

theorem pay2_eq (v : FVec Ideal S512x512 .f32) (g : Vec Ideal S1x512 .f32) :
    k0_pay2 v (k0_pay20 (k0_pay15 v) k0_pay16 (k0_pay18 v) (k0_pay19 v)) g
      = shapeCast S1x512x512 (truncf .bf16 (nrmd v g) bitsLt_bf16_f32) shapeCasts_S512x512_S1x512x512 := rfl

/-- One token's normed lane: the sum over its head, its mean's inverse root and its weight. -/
def hsum (f : Fin 512 → EReal) (l : Fin 512) : EReal := ∑ n : Fin 64, f (head l n)

def nv (z g : Fin 512 → EReal) (l : Fin 512) : EReal :=
  z l * Ideal.rsqrt (hsum (fun q => z q * z q) l * Ideal.ofBits FTy.f32 0x3C800000#32 + Ideal.ofBits FTy.f32 0x358637BD#32) * g l

theorem row_bc (x : FVec Ideal S1x512 .f32) (r l : Fin 512) :
    broadcastTo S512x512 (shapeCast S1x512 x shapeCasts_S1x512_S1x512) broadcasts_S1x512_S512x512 (ix2 r l) = x (ix2 0 l) := by
  pointwise

theorem nrmd_at (v : FVec Ideal S512x512 .f32) (g : FVec Ideal S1x512 .f32) (r l : Fin 512) :
    nrmd v g (ix2 r l) = nv (fun q => v (ix2 r q)) (fun q => g (ix2 0 q)) l := by
  show v (ix2 r l) * Ideal.rsqrt (sums (mulf v v) (ix2 r l) * _ + _) * broadcastTo S512x512 (shapeCast S1x512 g shapeCasts_S1x512_S1x512) broadcasts_S1x512_S512x512 (ix2 r l) = _
  rw [row_bc, sums_at]
  rfl

theorem keys_at (v : FVec Ideal S512x512 .f32) (r l : Fin 512) :
    shapeCast S1x512x512 (truncf .bf16 v bitsLt_bf16_f32) shapeCasts_S512x512_S1x512x512 (ix3 0 r l) = v (ix2 r l) := by
  pointwise

theorem pay1_at (v : FVec Ideal S512x512 .f32) (r l : Fin 512) : k0_pay1 v (ix3 0 r l) = v (ix2 r l) * Ideal.ofBits FTy.f32 0x3E000000#32 := by
  pointwise [k0_pay1]

theorem pay3_at (x : Vec Ideal S1x512x1536 .bf16) (r l : Fin 512) : k0_pay3 (k0_pay4 x) (ix3 0 r l) = x (ix3 0 r ⟨1024 + l.val, by omega⟩) := by
  pointwise [k0_pay3, k0_pay4]

theorem pay5_at (x : Vec Ideal S1x512x1536 .bf16) (r l : Fin 512) : k0_pay5 x (ix2 r l) = x (ix3 0 r ⟨l.val, by omega⟩) := by
  pointwise [k0_pay5, k0_pay4]

theorem pay6_at (x : Vec Ideal S1x512x1536 .bf16) (r l : Fin 512) : k0_pay6 x (ix2 r l) = x (ix3 0 r ⟨512 + l.val, by omega⟩) := by
  pointwise [k0_pay6, k0_pay4]

end Cert.Kernel5Ideal.Norms
-- ==== Proof.Norms.Out.lean ====
module

public import proofs.«01_k».proof.Proof.Norms.Tile
public import proofs.«01_k».proof.Proof.Gen.Kernel5Ideal.Value

@[expose] public section

set_option maxRecDepth 16384

noncomputable section

namespace Cert.Kernel5Ideal.Norms

open Cert.Kernel5Ideal Cert.Kernel5Ideal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- A grid point's sample and token tile, and row `r` of a tile. -/
def smp (t : Fin cfg0.N) : Fin 16 := ⟨t.val / 4 % 16, Nat.mod_lt _ (by omega)⟩
def til (t : Fin cfg0.N) : Fin 4 := ⟨t.val % 4, Nat.mod_lt _ (by omega)⟩
def row (i : Fin 4) (r : Fin 512) : Fin 2048 := ⟨i.val * 512 + r.val, by omega⟩

/-- The windows' arrays as the kernel call finds them. -/
def ap (c : Dev nD) : FVec Ideal S16x2048x8192 .bf16 := V m c main_arg0
def qg (c : Dev nD) : FVec Ideal S1x512 .f32 := V m c main_v3
def kg (c : Dev nD) : FVec Ideal S1x512 .f32 := V m c main_v7

theorem idx0 : ∀ t : Fin cfg0.N, win0_0.index t = ![t.val / 4 % 16, t.val % 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val / 4 % 16, t.val % 4, 0] := (by decide +kernel : ∀ t : Fin grid0.N, _)
theorem idx4 : ∀ t : Fin cfg0.N, win0_4.index t = ![t.val / 4 % 16, t.val % 4, 0] := (by decide +kernel : ∀ t : Fin grid0.N, _)
theorem idx5 : ∀ t : Fin cfg0.N, win0_5.index t = ![t.val / 4 % 16, t.val % 4, 0] := (by decide +kernel : ∀ t : Fin grid0.N, _)

theorem blk0 (c : Dev nD) (t : Fin cfg0.N) (r : Fin 512) (q : Fin 1536) :
    X0_0 m c t (ix3 0 r q) = ap m c (ix3 (smp t) (row (til t) r) ⟨q.val, by omega⟩) := by
  have i := idx0 t
  unfold X0_0 Pipeline.Window.fill
  rw [dif_pos (moved0_0 t _)]
  blk_ext [iblk, ap, i, smp, row, til]

theorem blk1 (c : Dev nD) (t : Fin cfg0.N) (q : Fin 512) : iblk m c 1 t (ix2 0 q) = qg m c (ix2 0 q) := by
  have i := idx1 t
  blk_ext [iblk, qg, i]

theorem blk2 (c : Dev nD) (t : Fin cfg0.N) (q : Fin 512) : iblk m c 2 t (ix2 0 q) = kg m c (ix2 0 q) := by
  have i := idx2 t
  blk_ext [iblk, kg, i]

/-- The blocks that the body stores. -/
theorem outs_eq (c : Dev nD) (t : Fin cfg0.N) : outsAt0 m c t
    = (k0_pay1 (nrmd (k0_pay5 (X0_0 m c t)) (iblk m c 1 t)),
      shapeCast S1x512x512 (truncf .bf16 (nrmd (k0_pay6 (X0_0 m c t)) (iblk m c 2 t)) bitsLt_bf16_f32) shapeCasts_S512x512_S1x512x512,
      k0_pay3 (k0_pay4 (X0_0 m c t))) := by
  unfold outsAt0
  refine congrArg₂ Prod.mk ?_ (congrArg₂ Prod.mk ?_ ?_)
  · frame_out
    rfl
  · frame_out
    rfl
  · frame_out

/-- The normed queries, times the attention's scale, the normed keys and the values. -/
def qs (c : Dev nD) (b : Fin 16) (a : Fin 2048) (l : Fin 512) : EReal :=
  nv (fun q => ap m c (ix3 b a ⟨q.val, by omega⟩)) (fun q => qg m c (ix2 0 q)) l * Ideal.ofBits FTy.f32 0x3E000000#32

def ks (c : Dev nD) (b : Fin 16) (a : Fin 2048) (l : Fin 512) : EReal :=
  nv (fun q => ap m c (ix3 b a ⟨512 + q.val, by omega⟩)) (fun q => kg m c (ix2 0 q)) l

def vs (c : Dev nD) (b : Fin 16) (a : Fin 2048) (l : Fin 512) : EReal := ap m c (ix3 b a ⟨1024 + l.val, by omega⟩)

theorem block3 (c : Dev nD) (t : Fin cfg0.N) (r l : Fin 512) :
    (dats m 0 c).after 3 t (ix3 0 r l) = qs m c (smp t) (row (til t) r) l := by
  rw [after0_3, outs_eq]
  refine (pay1_at _ r l).trans ?_
  rw [nrmd_at]
  simp only [pay5_at, blk0, blk1]
  rfl

theorem block4 (c : Dev nD) (t : Fin cfg0.N) (r l : Fin 512) :
    (dats m 0 c).after 4 t (ix3 0 r l) = ks m c (smp t) (row (til t) r) l := by
  rw [after0_4, outs_eq]
  refine (keys_at _ r l).trans ?_
  rw [nrmd_at]
  simp only [pay6_at, blk0, blk2]
  rfl

theorem block5 (c : Dev nD) (t : Fin cfg0.N) (r l : Fin 512) :
    (dats m 0 c).after 5 t (ix3 0 r l) = vs m c (smp t) (row (til t) r) l := by
  rw [after0_5, outs_eq]
  refine (pay3_at _ r l).trans ?_
  rw [blk0]
  rfl

/-- The result arrays. -/
def result0 (c : Dev nD) : main_v8_0.ty.Idx → Elt Ideal main_v8_0.ty.elt := fun i => qs m c (i 0) (i 1) (i 2)
def result1 (c : Dev nD) : main_v8_1.ty.Idx → Elt Ideal main_v8_1.ty.elt := fun i => ks m c (i 0) (i 1) (i 2)
def result2 (c : Dev nD) : main_v8_2.ty.Idx → Elt Ideal main_v8_2.ty.elt := fun i => vs m c (i 0) (i 1) (i 2)

theorem array0 (c : Dev nD) : (dats m 0 c).arrAt 3 cfg0.N = result0 m c :=
  (dats m 0 c).arrAt_eq_of_covers 3 _ (by decide +kernel) fun t ht y => by
    have i := idx3 t
    show (dats m 0 c).after 3 t y = _
    have ey : y = ix3 (0 : Fin 1) (y 1) (y 2) := by
      funext k; match k with
        | ⟨0, _⟩ => exact Fin.ext (Nat.lt_one_iff.mp (y 0).isLt)
        | ⟨1, _⟩ => rfl
        | ⟨2, _⟩ => rfl
    rw [ey]
    refine (block3 m c t (y 1) (y 2)).trans ?_
    show result0 m c (ix3 (smp t) (row (til t) (y 1)) (y 2)) = _
    blk_ext [i, smp, row, til]

theorem array1 (c : Dev nD) : (dats m 0 c).arrAt 4 cfg0.N = result1 m c :=
  (dats m 0 c).arrAt_eq_of_covers 4 _ (by decide +kernel) fun t ht y => by
    have i := idx4 t
    show (dats m 0 c).after 4 t y = _
    have ey : y = ix3 (0 : Fin 1) (y 1) (y 2) := by
      funext k; match k with
        | ⟨0, _⟩ => exact Fin.ext (Nat.lt_one_iff.mp (y 0).isLt)
        | ⟨1, _⟩ => rfl
        | ⟨2, _⟩ => rfl
    rw [ey]
    refine (block4 m c t (y 1) (y 2)).trans ?_
    show result1 m c (ix3 (smp t) (row (til t) (y 1)) (y 2)) = _
    blk_ext [i, smp, row, til]

theorem array2 (c : Dev nD) : (dats m 0 c).arrAt 5 cfg0.N = result2 m c :=
  (dats m 0 c).arrAt_eq_of_covers 5 _ (by decide +kernel) fun t ht y => by
    have i := idx5 t
    show (dats m 0 c).after 5 t y = _
    have ey : y = ix3 (0 : Fin 1) (y 1) (y 2) := by
      funext k; match k with
        | ⟨0, _⟩ => exact Fin.ext (Nat.lt_one_iff.mp (y 0).isLt)
        | ⟨1, _⟩ => rfl
        | ⟨2, _⟩ => rfl
    rw [ey]
    refine (block5 m c t (y 1) (y 2)).trans ?_
    show result2 m c (ix3 (smp t) (row (til t) (y 1)) (y 2)) = _
    blk_ext [i, smp, row, til]

end Cert.Kernel5Ideal.Norms
-- ==== Proof.Norms.Ref.lean ====
module

public import proofs.«01_k».proof.Proof.Norms.Tile
public import proofs.«01_k».proof.Proof.Gen.Reference5Ideal.Read

@[expose] public section

set_option maxRecDepth 16384

noncomputable section

namespace Cert.Reference5Ideal.Norms

open Cert.Reference5Ideal Cert.Reference5Ideal.Gen Cert.Reference5Ideal.Read
open Idealize.ShloMosaic Idealize.ShloMosaic.TcCoe Idealize.ShloMosaic.Tactic
open Idealize.SL.Sem
open Cert.Kernel5Ideal.Norms (head hsum nv)

theorem c64 : Ideal.ofBits FTy.f32 0x42800000#32 = ((64 : ℝ) : EReal) := by
  simp [Ideal.ofBits, Ideal.ieee]
  rw [← EReal.coe_mul]
  norm_num

theorem c64i : Ideal.ofBits FTy.f32 0x3C800000#32 = (((64 : ℝ)⁻¹ : ℝ) : EReal) := by
  simp [Ideal.ofBits, Ideal.ieee]
  rw [← EReal.coe_mul]
  norm_num

/-- Dividing by sixty-four is multiplying by its reciprocal. -/
theorem div64 (x : EReal) : Ideal.div x (Ideal.ofBits FTy.f32 0x42800000#32) = x * Ideal.ofBits FTy.f32 0x3C800000#32 := by
  rw [c64, c64i, Ideal.div, if_neg (by norm_num), EReal.coe_inv]

/-- Lane `n` of head `h`. -/
def at64 (h : Fin 8) (n : Fin 64) : Fin 512 := ⟨h.val * 64 + n.val, by omega⟩

theorem head_at (h : Fin 8) (n n' : Fin 64) : head (at64 h n) n' = at64 h n' :=
  Fin.ext (by show (h.val * 64 + n.val) / 64 * 64 + n'.val = h.val * 64 + n'.val; omega)
theorem at_self (l : Fin 512) : at64 ⟨l.val / 64, by omega⟩ ⟨l.val % 64, by omega⟩ = l :=
  Fin.ext (by show l.val / 64 * 64 + l.val % 64 = l.val; omega)

theorem split64 (x : FVec Ideal S16x2048x512 .f32) (b : Fin 16) (t : Fin 2048) (h : Fin 8) (n : Fin 64) :
    shapeCast S16x2048x8x64 x shapeCasts_S16x2048x512_S16x2048x8x64 (ix4 b t h n) = x (ix3 b t (at64 h n)) := by
  refine shapeCast_apply x shapeCasts_S16x2048x512_S16x2048x8x64 (ix4 b t h n) (ix3 b t (at64 h n)) ?_
  rewrite [Shape.rowMajor_val_three, Shape.rowMajor_val_four]
  show (b.val * 2048 + t.val) * 512 + (h.val * 64 + n.val) = ((b.val * 2048 + t.val) * 8 + h.val) * 64 + n.val
  omega

theorem join64 (z : FVec Ideal S16x2048x8x64 .f32) (b : Fin 16) (t : Fin 2048) (l : Fin 512) :
    shapeCast S16x2048x512 z shapeCasts_S16x2048x8x64_S16x2048x512 (ix3 b t l) = z (ix4 b t ⟨l.val / 64, by omega⟩ ⟨l.val % 64, by omega⟩) := by
  refine shapeCast_apply z shapeCasts_S16x2048x8x64_S16x2048x512 (ix3 b t l) (ix4 b t ⟨l.val / 64, by omega⟩ ⟨l.val % 64, by omega⟩) ?_
  rewrite [Shape.rowMajor_val_three, Shape.rowMajor_val_four]
  show ((b.val * 2048 + t.val) * 8 + l.val / 64) * 64 + l.val % 64 = (b.val * 2048 + t.val) * 512 + l.val
  omega

theorem v5_at (x : FVec Ideal S16x2048x8192 .bf16) (b : Fin 16) (t : Fin 2048) (h : Fin 8) (n : Fin 64) :
    val_main_v5 (F := Ideal) x (ix4 b t h n) = x (ix3 b t ⟨(at64 h n).val, by omega⟩) := by
  refine (split64 _ b t h n).trans ?_
  pointwise [val_main_v2, val_main_v1, val_main_v0]

theorem v21_at (x : FVec Ideal S16x2048x8192 .bf16) (b : Fin 16) (t : Fin 2048) (h : Fin 8) (n : Fin 64) :
    val_main_v21 (F := Ideal) x (ix4 b t h n) = x (ix3 b t ⟨512 + (at64 h n).val, by omega⟩) := by
  refine (split64 _ b t h n).trans ?_
  pointwise [val_main_v3, val_main_v1, val_main_v0]

theorem v20_at (x : FVec Ideal S16x2048x8192 .bf16) (g : FVec Ideal S64 .f32) (b : Fin 16) (t : Fin 2048) (h : Fin 8) (n : Fin 64) :
    val_main_v20 (F := Ideal) x g (ix4 b t h n) = val_main_v5 (F := Ideal) x (ix4 b t h n)
      * Ideal.rsqrt (Ideal.div (∑ k : Fin 64, val_main_v5 (F := Ideal) x (ix4 b t h k) * val_main_v5 (F := Ideal) x (ix4 b t h k))
          (Ideal.ofBits FTy.f32 0x42800000#32) + Ideal.ofBits FTy.f32 0x358637BD#32) * g (ix1 n) * Ideal.ofBits FTy.f32 0x3E000000#32 := by
  pointwise [val_main_v20, val_main_v19, val_main_v18, val_main_v17, val_main_v16, val_main_v15, val_main_v14, val_main_v13, val_main_v12,
    val_main_v11, val_main_v10, val_main_v9, val_main_v8, val_main_v7, val_main_v6, val_main_cst, val_main_cst_0, val_main_cst_1, val_main_cst_2]

theorem v34_at (x : FVec Ideal S16x2048x8192 .bf16) (g : FVec Ideal S64 .f32) (b : Fin 16) (t : Fin 2048) (h : Fin 8) (n : Fin 64) :
    val_main_v34 (F := Ideal) x g (ix4 b t h n) = val_main_v21 (F := Ideal) x (ix4 b t h n)
      * Ideal.rsqrt (Ideal.div (∑ k : Fin 64, val_main_v21 (F := Ideal) x (ix4 b t h k) * val_main_v21 (F := Ideal) x (ix4 b t h k))
          (Ideal.ofBits FTy.f32 0x42800000#32) + Ideal.ofBits FTy.f32 0x358637BD#32) * g (ix1 n) := by
  pointwise [val_main_v34, val_main_v33, val_main_v32, val_main_v31, val_main_v30, val_main_v29, val_main_v28, val_main_v27, val_main_v26,
    val_main_v25, val_main_v24, val_main_v23, val_main_v22, val_main_cst_3, val_main_cst_4, val_main_cst_5]

/-- The reference's scaled queries. -/
theorem q_at (x : FVec Ideal S16x2048x8192 .bf16) (g : FVec Ideal S64 .f32) (b : Fin 16) (t : Fin 2048) (l : Fin 512) :
    val_main_v36 (F := Ideal) x g (ix3 b t l) = nv (fun q => x (ix3 b t ⟨q.val, by omega⟩)) (fun q => g (ix1 ⟨q.val % 64, by omega⟩)) l
      * Ideal.ofBits FTy.f32 0x3E000000#32 := by
  have e : val_main_v36 (F := Ideal) x g (ix3 b t l) = shapeCast S16x2048x512 (val_main_v20 (F := Ideal) x g) shapeCasts_S16x2048x8x64_S16x2048x512 (ix3 b t l) := rfl
  refine e.trans ((join64 _ b t l).trans ?_)
  rw [v20_at, div64]
  simp only [v5_at, at_self]
  rfl

/-- The reference's keys. -/
theorem k_at (x : FVec Ideal S16x2048x8192 .bf16) (g : FVec Ideal S64 .f32) (b : Fin 16) (t : Fin 2048) (l : Fin 512) :
    val_main_v38 (F := Ideal) x g (ix3 b t l) = nv (fun q => x (ix3 b t ⟨512 + q.val, by omega⟩)) (fun q => g (ix1 ⟨q.val % 64, by omega⟩)) l := by
  have e : val_main_v38 (F := Ideal) x g (ix3 b t l) = shapeCast S16x2048x512 (val_main_v34 (F := Ideal) x g) shapeCasts_S16x2048x8x64_S16x2048x512 (ix3 b t l) := rfl
  refine e.trans ((join64 _ b t l).trans ?_)
  rw [v34_at, div64]
  simp only [v21_at, at_self]
  rfl

/-- The reference's values. -/
theorem v_at (x : FVec Ideal S16x2048x8192 .bf16) (b : Fin 16) (t : Fin 2048) (l : Fin 512) :
    val_main_v39 (F := Ideal) x (ix3 b t l) = x (ix3 b t ⟨1024 + l.val, by omega⟩) := by
  pointwise [val_main_v39, val_main_v4, val_main_v1, val_main_v0]

end Cert.Reference5Ideal.Norms
-- ==== Proof.Norms.Final.lean ====
module

public import proofs.«01_k».proof.Proof.Norms.Out
public import proofs.«01_k».proof.Proof.Norms.Ref

@[expose] public section

set_option maxRecDepth 16384

noncomputable section

namespace Cert.Kernel5Ideal.Norms

open Cert.Kernel5Ideal Cert.Kernel5Ideal.Gen
open Idealize.ShloMosaic Idealize.ShloMosaic.TcCoe Idealize.ShloMosaic.Tactic
open Idealize.SL.Sem
open Cert.Reference5Ideal.Read
open Cert.Reference5Ideal.Norms

variable (m : (ℓ : Loc nD τ sig) → Buf (Elt Ideal) ℓ)

/-- The arguments of the kernel's program, at their shapes. -/
def a0 (c : Dev nD) : FVec Ideal S16x2048x8192 .bf16 := m ((c.tc : Thread nD τ).loc main_arg0)
def a1 (c : Dev nD) : FVec Ideal S64 .f32 := m ((c.tc : Thread nD τ).loc main_arg1)
def a2 (c : Dev nD) : FVec Ideal S64 .f32 := m ((c.tc : Thread nD τ).loc main_arg2)

theorem ap_eq (c : Dev nD) : ap m c = a0 m c := V_main_arg0 m c

/-- Weights of one head, laid out for all heads. -/
theorem tiled (g : FVec Ideal S64 .f32) (q : Fin 512) :
    shapeCast S1x512 (shapeCast S512 (broadcastInDim S8x64 ![0, 1] bcast_S1x64_S8x64_0_1 (shapeCast S1x64 g shapeCasts_S64_S1x64)) shapeCasts_S8x64_S512)
      shapeCasts_S512_S1x512 (ix2 0 q) = g (ix1 ⟨q.val % 64, by omega⟩) := by
  refine (shapeCast_apply _ _ (ix2 0 q) (ix1 q) ?_).trans ?_
  · rewrite [Shape.rowMajor_val_two, Shape.rowMajor_val_one]
    show q.val = 0 * 512 + q.val
    omega
  refine (shapeCast_apply _ _ (ix1 q) (ix2 (⟨q.val / 64, by omega⟩ : Fin 8) (⟨q.val % 64, by omega⟩ : Fin 64)) ?_).trans ?_
  · rewrite [Shape.rowMajor_val_two, Shape.rowMajor_val_one]
    show q.val / 64 * 64 + q.val % 64 = q.val
    omega
  pointwise

theorem qg_at (c : Dev nD) (q : Fin 512) : qg m c (ix2 0 q) = a1 m c (ix1 ⟨q.val % 64, by omega⟩) := by
  show V m c main_v3 (ix2 0 q) = _
  entry_read
  exact tiled (a1 m c) q

theorem kg_at (c : Dev nD) (q : Fin 512) : kg m c (ix2 0 q) = a2 m c (ix1 ⟨q.val % 64, by omega⟩) := by
  show V m c main_v7 (ix2 0 q) = _
  entry_read
  exact tiled (a2 m c) q

theorem idx_self (i : S16x2048x512.Idx) : i = ix3 (i 0) (i 1) (i 2) := by
  funext k; match k with
    | ⟨0, _⟩ => rfl
    | ⟨1, _⟩ => rfl
    | ⟨2, _⟩ => rfl

theorem qs_eq (c : Dev nD) (b : Fin 16) (a : Fin 2048) (l : Fin 512) :
    qs m c b a l = val_main_v36 (F := Ideal) (a0 m c) (a1 m c) (ix3 b a l) := by
  rw [q_at, qs, ap_eq]
  simp only [qg_at]

theorem ks_eq (c : Dev nD) (b : Fin 16) (a : Fin 2048) (l : Fin 512) :
    ks m c b a l = val_main_v38 (F := Ideal) (a0 m c) (a2 m c) (ix3 b a l) := by
  rw [k_at, ks, ap_eq]
  simp only [kg_at]

theorem vs_eq (c : Dev nD) (b : Fin 16) (a : Fin 2048) (l : Fin 512) :
    vs m c b a l = val_main_v39 (F := Ideal) (a0 m c) (ix3 b a l) := by
  rw [v_at, vs, ap_eq]

/-- The kernel's result arrays are the reference's. -/
theorem result0_eq (c : Dev nD) : result0 m c = val_main_v36 (F := Ideal) (a0 m c) (a1 m c) := by
  funext i
  rw [idx_self i]
  exact qs_eq m c (i 0) (i 1) (i 2)

theorem result1_eq (c : Dev nD) : result1 m c = val_main_v38 (F := Ideal) (a0 m c) (a2 m c) := by
  funext i
  rw [idx_self i]
  exact ks_eq m c (i 0) (i 1) (i 2)

theorem result2_eq (c : Dev nD) : result2 m c = val_main_v39 (F := Ideal) (a0 m c) := by
  funext i
  rw [idx_self i]
  exact vs_eq m c (i 0) (i 1) (i 2)

end Cert.Kernel5Ideal.Norms
-- ==== Proof.Mod.Final.lean ====
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit

@[expose] public section

set_option maxRecDepth 16384

noncomputable section

namespace Cert.Kernel6Ideal.Mod

open Cert.Kernel6Ideal Cert.Kernel6Ideal.Gen
open Idealize.ShloMosaic Idealize.ShloMosaic.TcCoe Idealize.ShloMosaic.Tactic
open Idealize.SL.Sem
open Idealize.ShloMosaic.Pipeline (Dat Cfg Window)
open Cert.Reference6Ideal.Read

variable (m : (ℓ : Loc nD τ sig) → Buf (Elt Ideal) ℓ)

/-- One block of the product. -/
theorem pay1_at (x : Vec Ideal S8x1024 .f32) (w : Vec Ideal S1024x1024 .f32) (r : Fin 8) (l : Fin 1024) :
    k0_pay1 x w (ix2 r l) = ∑ q : Fin 1024, x (ix2 r q) * w (ix2 q l) := by
  pointwise [k0_pay1]

/-- A grid point's row tile and column tile. -/
def rowt (t : Fin cfg0.N) : Fin 3 := ⟨t.val / 6 % 3, Nat.mod_lt _ (by omega)⟩
def colt (t : Fin cfg0.N) : Fin 6 := ⟨t.val % 6, Nat.mod_lt _ (by omega)⟩

/-- Row `r` of row tile `i`, and lane `l` of column tile `j`. -/
def row (i : Fin 3) (r : Fin 8) : Fin 24 := ⟨i.val * 8 + r.val, by omega⟩
def lane (j : Fin 6) (l : Fin 1024) : Fin 6144 := ⟨j.val * 1024 + l.val, by omega⟩

/-- The windows' arrays as the kernel call finds them. -/
def xs (c : Dev nD) : FVec Ideal S24x1024 .f32 := V m c main_v4
def ws (c : Dev nD) : FVec Ideal S1024x6144 .f32 := V m c main_arg2

theorem idx0 : ∀ t : Fin cfg0.N, win0_0.index t = ![t.val / 6 % 3, 0] := (by decide +kernel : ∀ t : Fin grid0.N, _)
theorem idx1 : ∀ t : Fin cfg0.N, win0_1.index t = ![0, t.val % 6] := (by decide +kernel : ∀ t : Fin grid0.N, _)
theorem idx2 : ∀ t : Fin cfg0.N, win0_2.index t = ![t.val / 6 % 3, t.val % 6] := (by decide +kernel : ∀ t : Fin grid0.N, _)

theorem blk0 (c : Dev nD) (t : Fin cfg0.N) (r : Fin 8) (q : Fin 1024) : iblk m c 0 t (ix2 r q) = xs m c (ix2 (row (rowt t) r) q) := by
  have i := idx0 t
  blk_ext [iblk, xs, i, rowt, row]

theorem blk1 (c : Dev nD) (t : Fin cfg0.N) (q l : Fin 1024) : iblk m c 1 t (ix2 q l) = ws m c (ix2 q (lane (colt t) l)) := by
  have i := idx1 t
  blk_ext [iblk, ws, i, lane, colt]

/-- The block that the body stores. -/
theorem outs_eq (c : Dev nD) (t : Fin cfg0.N) : outsAt0 m c t = k0_pay1 (iblk m c 0 t) (iblk m c 1 t) := by
  unfold outsAt0
  frame_out

/-- The product. -/
def out (c : Dev nD) (a : Fin 24) (l : Fin 6144) : EReal := ∑ q : Fin 1024, xs m c (ix2 a q) * ws m c (ix2 q l)

theorem block_at (c : Dev nD) (t : Fin cfg0.N) (r : Fin 8) (l : Fin 1024) :
    (dats m 0 c).after 2 t (ix2 r l) = out m c (row (rowt t) r) (lane (colt t) l) := by
  rw [after0_2, outs_eq]
  refine (pay1_at _ _ r l).trans ?_
  exact Finset.sum_congr rfl fun q _ => congrArg₂ (· * ·) (blk0 m c t r q) (blk1 m c t q l)

/-- The result array. -/
def result (c : Dev nD) : main_v5.ty.Idx → Elt Ideal main_v5.ty.elt := fun i => out m c (i 0) (i 1)

/-- The blocks make up the result. -/
theorem array_eq (c : Dev nD) : (dats m 0 c).arrAt 2 cfg0.N = result m c :=
  (dats m 0 c).arrAt_eq_of_covers 2 _ (by decide +kernel) fun t ht y => by
    have i := idx2 t
    show (dats m 0 c).after 2 t y = _
    have ey : y = ix2 (y 0) (y 1) := by
      funext k; match k with
        | ⟨0, _⟩ => rfl
        | ⟨1, _⟩ => rfl
    rw [ey]
    refine (block_at m c t (y 0) (y 1)).trans ?_
    show result m c (ix2 (row (rowt t) (y 0)) (lane (colt t) (y 1))) = _
    blk_ext [i, rowt, row, lane, colt]

/-- The arguments of the kernel's program, at their shapes. -/
def a0 (c : Dev nD) : FVec Ideal S16x1024 .f32 := m ((c.tc : Thread nD τ).loc main_arg0)
def a1 (c : Dev nD) : FVec Ideal S1024 .f32 := m ((c.tc : Thread nD τ).loc main_arg1)
def a2 (c : Dev nD) : FVec Ideal S1024x6144 .f32 := m ((c.tc : Thread nD τ).loc main_arg2)

theorem ws_eq (c : Dev nD) : ws m c = a2 m c := V_main_arg2 m c

/-- The rows that enter the product: the program's and the reference's are the same function of the arguments. -/
theorem xs_eq (c : Dev nD) : xs m c = val_main_v4 (F := Ideal) (a0 m c) (a1 m c) := by
  show V m c main_v4 = _
  entry_read
  rfl

/-- The kernel's result at an index, over its arguments. -/
theorem out_eq (c : Dev nD) (a : Fin 24) (l : Fin 6144) :
    out m c a l = ∑ q : Fin 1024, (val_main_v4 (F := Ideal) (a0 m c) (a1 m c) : FVec Ideal S24x1024 .f32) (ix2 a q) * a2 m c (ix2 q l) := by
  show ∑ q : Fin 1024, xs m c (ix2 a q) * ws m c (ix2 q l) = _
  rw [xs_eq, ws_eq]

/-- The kernel's result array is the reference's. -/
theorem result_eq (c : Dev nD) : result m c = val_main_v5 (F := Ideal) (a0 m c) (a1 m c) (a2 m c) := by
  funext i
  refine (out_eq m c (i 0) (i 1)).trans (Eq.trans ?_ (val_main_v5_apply _ _ _ i).symm)
  refine Finset.sum_congr rfl fun q _ => congrArg₂ (· * ·) (congrArg _ ?_) (congrArg _ ?_)
  · funext k; match k with
      | ⟨0, _⟩ => rfl
      | ⟨1, _⟩ => rfl
  · funext k; match k with
      | ⟨0, _⟩ => rfl
      | ⟨1, _⟩ => rfl

end Cert.Kernel6Ideal.Mod
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_gates
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_bonus
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Moe.Final
public import proofs.«01_k».proof.Proof.Word.Frame
public import proofs.«01_k».proof.Proof.Proj.Final
public import proofs.«01_k».proof.Proof.Merge.Final
public import proofs.«01_k».proof.Proof.Norms.Final
public import proofs.«01_k».proof.Proof.Mod.Final
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem quiescent_ReferenceIdeal : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl _⟩

theorem quiescent_Reference2Ideal : Cert.quiescent_Reference2Ideal (hReference2Ideal := Cert.Reference2Ideal.Gen.facts) := fun m g _ =>
  θ_run_mono (Cert.Reference2Ideal.Value.run m g) fun r h => ⟨fun c => (h c).2, sem_eq_zero_of_no_sems rfl _⟩

theorem quiescent_Reference3Ideal : Cert.quiescent_Reference3Ideal (hReference3Ideal := Cert.Reference3Ideal.Gen.facts) := fun m g _ =>
  θ_run_mono (Cert.Reference3Ideal.Value.run m g) fun r h => ⟨fun c => (h c).2, sem_eq_zero_of_no_sems rfl _⟩

theorem quiescent_Reference4Ideal : Cert.quiescent_Reference4Ideal (hReference4Ideal := Cert.Reference4Ideal.Gen.facts) := fun m g _ =>
  θ_run_mono (Cert.Reference4Ideal.Value.run m g) fun r h => ⟨fun c => (h c).2, sem_eq_zero_of_no_sems rfl _⟩

theorem quiescent_Reference5Ideal : Cert.quiescent_Reference5Ideal (hReference5Ideal := Cert.Reference5Ideal.Gen.facts) := fun m g _ =>
  θ_run_mono (Cert.Reference5Ideal.Value.run m g) fun r h => ⟨fun c => (h c).2.2.2, sem_eq_zero_of_no_sems rfl _⟩

theorem quiescent_Reference6Ideal : Cert.quiescent_Reference6Ideal (hReference6Ideal := Cert.Reference6Ideal.Gen.facts) := fun m g _ =>
  θ_run_mono (Cert.Reference6Ideal.Value.run m g) fun r h => ⟨fun c => (h c).2, sem_eq_zero_of_no_sems rfl _⟩

/-- The mixture-of-experts kernel computes the reference's function. -/
theorem algebraic_moe : Cert.algebraic_Kernel2Ideal_Reference2Ideal_pre_finite_gates (hKernel2Ideal := Cert.Kernel2Ideal.Gen.facts)
    (hReference2Ideal := Cert.Reference2Ideal.Gen.facts) (hPre_finite_gates := Cert.Pre_finite_gates.Gen.facts) := by
  intro m g m' g' hpre hagree
  refine ⟨fun c => Cert.Kernel2Ideal.Moe.result m c, Cert.Kernel2Ideal.Moe.run m g,
    θ_run_mono (Cert.Reference2Ideal.Value.run m' g') fun r h c => ⟨?_, (h c).2⟩⟩
  obtain ⟨e0, e1, e2, e3, e4, e5, e6, e7, e8, e9⟩ := hagree c
  refine (h c).1.trans ((Cert.Reference2Ideal.Read.val_main_v19_eq _ _ _ _ _ _ _ _ _ _).trans ?_)
  rw [e0, e1, e2, e3, e4, e5, e6, e7, e8, e9]
  exact (Cert.Kernel2Ideal.Moe.result_eq m c fun b a e => Cert.Pre_finite_gates.Moe.gate _ _ _ _ _ _ _ _ _ _ (hpre c) b a e).symm

/-- The input projection's kernel computes the reference's function. -/
theorem algebraic_proj : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Proj.result m c,
    θ_run_mono (Cert.Kernel3Ideal.Value.run_blocks m g) fun r h c => ⟨(h c).1.trans (Cert.Kernel3Ideal.Proj.array_eq m c), (h c).2⟩,
    θ_run_mono (Cert.Reference3Ideal.Value.run m' g') fun r h c => ⟨?_, (h c).2⟩⟩
  obtain ⟨e0, e1, e2, e3⟩ := hagree c
  refine (h c).1.trans ((Cert.Reference3Ideal.Read.val_main_v23_eq _ _ _ _).trans ?_)
  rw [e0, e1, e2, e3]
  exact (Cert.Kernel3Ideal.Proj.result_eq m c).symm

/-- The merge's kernel computes the reference's function. -/
theorem algebraic_merge : Cert.algebraic_Kernel4Ideal_Reference4Ideal_pre_finite_bonus (hKernel4Ideal := Cert.Kernel4Ideal.Gen.facts)
    (hReference4Ideal := Cert.Reference4Ideal.Gen.facts) (hPre_finite_bonus := Cert.Pre_finite_bonus.Gen.facts) := by
  intro m g m' g' hpre hagree
  refine ⟨fun c => Cert.Kernel4Ideal.Merge.result m c,
    θ_run_mono (Cert.Kernel4Ideal.Value.run_blocks m g) fun r h c => ⟨(h c).1.trans (Cert.Kernel4Ideal.Merge.array_eq m c), (h c).2⟩,
    θ_run_mono (Cert.Reference4Ideal.Value.run m' g') fun r h c => ⟨?_, (h c).2⟩⟩
  obtain ⟨e0, e1, e2, e3, e4, e5, e6, e7, e8, e9, e10, e11, e12, e13, e14, e15, e16, e17, e18⟩ := hagree c
  refine (h c).1.trans ((Cert.Reference4Ideal.Read.val_main_v126_eq _ _).trans ?_)
  rw [e0, e1, e2, e3, e4, e5, e6, e7, e8, e9, e10, e11, e12, e13, e14, e15, e16, e17, e18]
  exact (Cert.Kernel4Ideal.Merge.args_eq m c (Cert.Pre_finite_bonus.Merge.reals _ _ _ _ _ _ _ _ _ _ _ _ _ _ _ _ _ _ _ (hpre c))).symm

/-- The kernel of the query and key norms computes the reference's function: all three results. -/
theorem algebraic_norms : Cert.algebraic_Kernel5Ideal_Reference5Ideal (hKernel5Ideal := Cert.Kernel5Ideal.Gen.facts)
    (hReference5Ideal := Cert.Reference5Ideal.Gen.facts) := by
  intro m g m' g' _ hagree
  refine ⟨fun c => Cert.Kernel5Ideal.Norms.result0 m c, fun c => Cert.Kernel5Ideal.Norms.result1 m c, fun c => Cert.Kernel5Ideal.Norms.result2 m c,
    θ_run_mono (Cert.Kernel5Ideal.Value.run_blocks m g) fun r h c => ⟨(h c).1.trans (Cert.Kernel5Ideal.Norms.array0 m c),
      (h c).2.1.trans (Cert.Kernel5Ideal.Norms.array1 m c), (h c).2.2.1.trans (Cert.Kernel5Ideal.Norms.array2 m c), (h c).2.2.2⟩,
    θ_run_mono (Cert.Reference5Ideal.Value.run m' g') fun r h c => ⟨?_, ?_, ?_, (h c).2.2.2⟩⟩
  · obtain ⟨e0, e1, e2⟩ := hagree c
    refine (h c).1.trans ((Cert.Reference5Ideal.Read.val_main_v36_eq _ _).trans ?_)
    rw [e0, e1]
    exact (Cert.Kernel5Ideal.Norms.result0_eq m c).symm
  · obtain ⟨e0, e1, e2⟩ := hagree c
    refine (h c).2.1.trans ((Cert.Reference5Ideal.Read.val_main_v38_eq _ _).trans ?_)
    rw [e0, e2]
    exact (Cert.Kernel5Ideal.Norms.result1_eq m c).symm
  · obtain ⟨e0, e1, e2⟩ := hagree c
    refine (h c).2.2.1.trans ((Cert.Reference5Ideal.Read.val_main_v39_eq _).trans ?_)
    rw [e0]
    exact (Cert.Kernel5Ideal.Norms.result2_eq m c).symm

/-- The kernel of the modulation's product computes the reference's function. -/
theorem algebraic_mod : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Kernel6Ideal.Mod.result m c,
    θ_run_mono (Cert.Kernel6Ideal.Value.run_blocks m g) fun r h c => ⟨(h c).1.trans (Cert.Kernel6Ideal.Mod.array_eq m c), (h c).2⟩,
    θ_run_mono (Cert.Reference6Ideal.Value.run m' g') fun r h c => ⟨?_, (h c).2⟩⟩
  obtain ⟨e0, e1, e2⟩ := hagree c
  refine (h c).1.trans ((Cert.Reference6Ideal.Read.val_main_v5_eq _ _ _).trans ?_)
  rw [e0, e1, e2]
  exact (Cert.Kernel6Ideal.Mod.result_eq m c).symm

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_gates.Gen.facts, Cert.Pre_finite_bonus.Gen.facts,
  fun m ρ _ => Cert.Kernel.Gen.frame m ρ,
  fun m ρ _ => Cert.KernelIdeal.Gen.frame m ρ,
  quiescent_ReferenceIdeal,
  fun m ρ _ => Cert.Kernel2.Word.frame m ρ,
  fun m ρ _ => Cert.Kernel2Ideal.Moe.frame m ρ,
  fun m ρ _ => Cert.Kernel2Ideal.Moe.frame m ρ,
  quiescent_Reference2Ideal,
  fun m ρ _ => quiescent_Reference2Ideal m ρ trivial,
  fun m ρ _ => Cert.Kernel3.Gen.frame m ρ,
  fun m ρ _ => Cert.Kernel3Ideal.Gen.frame m ρ,
  quiescent_Reference3Ideal,
  fun m ρ _ => Cert.Kernel4.Gen.frame m ρ,
  fun m ρ _ => Cert.Kernel4Ideal.Gen.frame m ρ,
  fun m ρ _ => Cert.Kernel4Ideal.Gen.frame m ρ,
  quiescent_Reference4Ideal,
  fun m ρ _ => quiescent_Reference4Ideal m ρ trivial,
  fun m ρ _ => Cert.Kernel5.Gen.frame m ρ,
  fun m ρ _ => Cert.Kernel5Ideal.Gen.frame m ρ,
  quiescent_Reference5Ideal,
  fun m ρ _ => Cert.Kernel6.Gen.frame m ρ,
  fun m ρ _ => Cert.Kernel6Ideal.Gen.frame m ρ,
  quiescent_Reference6Ideal,
  trivial, trivial, algebraic_moe, trivial, algebraic_proj, trivial, algebraic_merge, trivial, algebraic_norms,
  trivial, algebraic_mod⟩

end Cert.Proof

end
